-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S256x512 .bf16) (main_arg1 : FVec F S512x4096 .bf16) : IVec S_ 1 :=
  let main_cst : FVec F S_ .bf16 := constant S_ .bf16 0x7F80#16
  let main_v0 : FVec F S256x512 .bf16 := broadcastInDim S256x512 ![] bcast_S_S256x512 main_cst
  let main_v1 : IVec S256x512 1 := cmpf .olt main_arg0 main_v0
  let main_cst_0 : FVec F S_ .bf16 := constant S_ .bf16 0xFF80#16
  let main_v2 : FVec F S256x512 .bf16 := broadcastInDim S256x512 ![] bcast_S_S256x512 main_cst_0
  let main_v3 : IVec S256x512 1 := cmpf .ogt main_arg0 main_v2
  let main_v4 : IVec S256x512 1 := andi main_v1 main_v3
  let main_c : IVec S_ 1 := constantI S_ 1 1#1
  let main_v5 : IVec S_ 1 := (fun x v => Host.reduce IntOp.andi x v reducesTo_S256x512_S_d0_1 h_S_) main_v4 main_c
  let main_cst_1 : FVec F S_ .bf16 := constant S_ .bf16 0x7F80#16
  let main_v6 : FVec F S512x4096 .bf16 := broadcastInDim S512x4096 ![] bcast_S_S512x4096 main_cst_1
  let main_v7 : IVec S512x4096 1 := cmpf .olt main_arg1 main_v6
  let main_cst_2 : FVec F S_ .bf16 := constant S_ .bf16 0xFF80#16
  let main_v8 : FVec F S512x4096 .bf16 := broadcastInDim S512x4096 ![] bcast_S_S512x4096 main_cst_2
  let main_v9 : IVec S512x4096 1 := cmpf .ogt main_arg1 main_v8
  let main_v10 : IVec S512x4096 1 := andi main_v7 main_v9
  let main_c_3 : IVec S_ 1 := constantI S_ 1 1#1
  let main_v11 : IVec S_ 1 := (fun x v => Host.reduce IntOp.andi x v reducesTo_S512x4096_S_d0_1 h_S_) main_v10 main_c_3
  let main_v12 : IVec S_ 1 := andi main_v5 main_v11
  main_v12
-- ==== Pre_finite_ReferenceIdeal.lean ====
abbrev S256x512 : Shape := ⟨2, ![256, 512]⟩
abbrev S512x8192 : Shape := ⟨2, ![512, 8192]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x8192 : S_.BroadcastsInDim S512x8192 (![] : Fin 0 → Fin S512x8192.rank)
  reducesTo_S512x8192_S_d0_1 : S512x8192.ReducesTo [0, 1] S_

variable [Facts]

def fn {F : FTy → Type} [FloatOps F] (main_arg0 : FVec F S256x512 .bf16) (main_arg1 : FVec F S512x8192 .bf16) : IVec S_ 1 :=
  let main_cst : FVec F S_ .bf16 := constant S_ .bf16 0x7F80#16
  let main_v0 : FVec F S256x512 .bf16 := broadcastInDim S256x512 ![] bcast_S_S256x512 main_cst
  let main_v1 : IVec S256x512 1 := cmpf .olt main_arg0 main_v0
  let main_cst_0 : FVec F S_ .bf16 := constant S_ .bf16 0xFF80#16
  let main_v2 : FVec F S256x512 .bf16 := broadcastInDim S256x512 ![] bcast_S_S256x512 main_cst_0
  let main_v3 : IVec S256x512 1 := cmpf .ogt main_arg0 main_v2
  let main_v4 : IVec S256x512 1 := andi main_v1 main_v3
  let main_c : IVec S_ 1 := constantI S_ 1 1#1
  let main_v5 : IVec S_ 1 := (fun x v => Host.reduce IntOp.andi x v reducesTo_S256x512_S_d0_1 h_S_) main_v4 main_c
  let main_cst_1 : FVec F S_ .bf16 := constant S_ .bf16 0x7F80#16
  let main_v6 : FVec F S512x8192 .bf16 := broadcastInDim S512x8192 ![] bcast_S_S512x8192 main_cst_1
  let main_v7 : IVec S512x8192 1 := cmpf .olt main_arg1 main_v6
  let main_cst_2 : FVec F S_ .bf16 := constant S_ .bf16 0xFF80#16
  let main_v8 : FVec F S512x8192 .bf16 := broadcastInDim S512x8192 ![] bcast_S_S512x8192 main_cst_2
  let main_v9 : IVec S512x8192 1 := cmpf .ogt main_arg1 main_v8
  let main_v10 : IVec S512x8192 1 := andi main_v7 main_v9
  let main_c_3 : IVec S_ 1 := constantI S_ 1 1#1
  let main_v11 : IVec S_ 1 := (fun x v => Host.reduce IntOp.andi x v reducesTo_S512x8192_S_d0_1 h_S_) main_v10 main_c_3
  let main_v12 : IVec S_ 1 := andi main_v5 main_v11
  main_v12
-- ==== Kernel.lean ====
abbrev S256x512 : Shape := ⟨2, ![256, 512]⟩
abbrev S512x4096 : Shape := ⟨2, ![512, 4096]⟩
abbrev S256x8192 : Shape := ⟨2, ![256, 8192]⟩
abbrev S256x4096 : Shape := ⟨2, ![256, 4096]⟩
abbrev S_ : Shape := ⟨0, ![]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S256x512, .bf16⟩
  | .hbm, ⟨1, _⟩ => ⟨S512x4096, .bf16⟩
  | .hbm, ⟨2, _⟩ => ⟨S256x8192, .f32⟩
  | .local _ .vmem, ⟨0, _⟩ => ⟨S256x512, .bf16⟩
  | .local _ .vmem, ⟨1, _⟩ => ⟨S512x4096, .bf16⟩
  | .local _ .vmem, ⟨2, _⟩ => ⟨S256x8192, .f32⟩
  | .local _ .vmem, ⟨3, _⟩ => ⟨S256x4096, .bf16⟩
  | .local _ .vmem, ⟨4, _⟩ => ⟨S256x4096, .bf16⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v21 : BitVec 32 := Scalar.muli v2 c2_i32_12
  let v22 : BitVec 32 := Scalar.addi c0_i32_13 v21
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_14 : BitVec 32 := 1#32
  let v23 : BitVec 32 := Scalar.muli v6 c1_i32_14
  let v24 : BitVec 32 := Scalar.addi v22 v23
  v24.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256x8192 : Shape := ⟨2, ![256, 8192]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S512x8192, .bf16⟩
  | .hbm, ⟨2, _⟩ => ⟨S256x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x8192, .f32⟩
  | .hbm, ⟨13, _⟩ => ⟨S256x8192, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Protocol.lean ====
/-
  The protocol of the kernel: each device swaps its block of logits with the one device beside it.

  The mesh is 2 × 2 and device `c` stands at row `c / 2`, column `c % 2`. Its mate is the other device of the same
  row. A device uses three semaphore cells:
  * its gate (the barrier semaphore): the mate adds one unit, and with it lends its landing buffer;
  * its sent cell: its own transfer adds the block's credit, and gives the send buffer back;
  * its got cell: the mate's transfer adds the block's credit, and hands over the landing buffer filled with the
    mate's logits.
  Each cell is used for one round with one duty. The schedule, its tables and what a device owes are stated here once,
  for any float instance.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.SoftmaxPair

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's rounds beside the protocol's. -/
abbrev UU : Type := UR sig nD τ × UR sig nD τ

local notation "𝕄" => MT nD τ sig Unit (Elt F) ℕ UU ℕ

/-- The pipeline's half of the ghost state. -/
abbrev EP : Emb (UR sig nD τ) (MT nD τ sig Unit (Elt F) ℕ UU ℕ) := embL
/-- The protocol's half of the ghost state. -/
abbrev ER : Emb (UR sig nD τ) (MT nD τ sig Unit (Elt F) ℕ UU ℕ) := embR

variable (m : (ℓ : Loc nD τ sig) → Buf (Elt F) ℓ)

/-! ## The mate of a device -/

/-- The other device of the same row of the mesh. -/
def mate (c : Dev nD) : Dev nD :=
  ⟨2 * (c.val / 2) + 1 - c.val % 2, by have h : c.val < 4 := c.isLt; show _ < 4; omega⟩

/-- The mate of the mate is the device itself. -/
theorem mate_mate (c : Dev nD) : mate (mate c) = c := by revert c; decide

/-- The device that the kernel's signal names is the mate. -/
theorem signalled_eq (c : Dev nD) : (⟨k0_dev1 c, k0_dev1_lt c⟩ : Dev nD) = mate c := Fin.ext (k0_dev1_eq c)

/-- The device that the kernel's transfer names is the mate. -/
theorem addressed_eq (c : Dev nD) : (⟨k0_dev2 c, k0_dev2_lt c⟩ : Dev nD) = mate c := Fin.ext (k0_dev2_eq c)

/-! ## The cells -/

/-- The barrier semaphore that the kernel signals and waits on. -/
abbrev barS : Sem sig := (SemArray.scalar (sig.barrier 0 rfl) : Sems sig S_).sem
/-- The semaphore that a device's own transfer credits when its source is read. -/
abbrev sentS : DmaSem sig := (cc0_scratch2 : DmaSems sig S_).sem
/-- The semaphore that a transfer credits on the device it arrives at. -/
abbrev gotS : DmaSem sig := (cc0_scratch3 : DmaSems sig S_).sem

/-- The gate of device `c`. -/
abbrev gate (c : Dev nD) : GSem nD τ sig := ((c : Thread nD τ), .reg barS)
/-- The sent cell of device `c`. -/
abbrev sent (c : Dev nD) : GSem nD τ sig := ((c : Thread nD τ), .dma sentS)
/-- The got cell of device `c`. -/
abbrev got (c : Dev nD) : GSem nD τ sig := ((c : Thread nD τ), .dma gotS)

/-- The send buffer, which a device fills with its logits. -/
abbrev sendM : Memref sig .tc .vmem S256x4096 .bf16 := Memref.whole cc0_scratch0
/-- The landing buffer, which the mate's logits arrive in. -/
abbrev landM : Memref sig .tc .vmem S256x4096 .bf16 := Memref.whole cc0_scratch1

/-- The credit of one transfer of a block of logits. -/
abbrev credit : ℕ := landM.view.dmaCredit

theorem credit_pos : 0 < credit := View.dmaCredit_pos _ (by decide)

theorem sent_ne_bar : (SemLoc.dma sentS : SemLoc sig) ≠ .reg barS := by decide
theorem got_ne_bar : (SemLoc.dma gotS : SemLoc sig) ≠ .reg barS := by decide
theorem got_ne_sent : (SemLoc.dma gotS : SemLoc sig) ≠ .dma sentS := by decide

/-! ## Contents -/

/-- The copy of `x` that device `c` is launched with. -/
def xOf (c : Dev nD) : Vec F S256x512 .bf16 := m ((c : Thread nD τ).loc main_arg0)
/-- The block of `W` that device `c` is launched with. -/
def wOf (c : Dev nD) : Vec F S512x4096 .bf16 := m ((c : Thread nD τ).loc main_arg1)
/-- The block of logits that device `c` sends: its product, rounded to the format of the send buffer. -/
def sends (c : Dev nD) : Vec F S256x4096 .bf16 := k0_pay11 (xOf m c) (wOf m c)
theorem sends_eq (c : Dev nD) : sends m c = k0_pay11 (xOf m c) (wOf m c) := rfl

/-! ## The schedule -/

/-- The landing buffer of device `c`, whole, at some contents. -/
def lands (c : Dev nD) : sProp 𝕄 :=
  iprop(∃ f : Buf (Elt F) (landM.view.loc (c : Thread nD τ)), (landM.view.loc (c : Thread nD τ)) ↦{fullShare} f)
theorem lands_eq (c : Dev nD) : (lands c : sProp 𝕄)
    = iprop(∃ f : Buf (Elt F) (landM.view.loc (c : Thread nD τ)), (landM.view.loc (c : Thread nD τ)) ↦{fullShare} f) := rfl
instance lands_storable (c : Dev nD) : BI.Storable (upEmb : UEmb _ 𝕄) (lands c) := by unfold lands; infer_instance

/-- What the duty of a semaphore of device `c` hands over: the gate the mate's landing buffer at some contents, the
    sent cell the send buffer, the got cell the landing buffer filled with what the mate sends. -/
def hands (c : Dev nD) (s : SemLoc sig) : sProp 𝕄 :=
  if s = .reg barS then lands (mate c)
  else if s = .dma sentS then iprop((sendM.view.loc (c : Thread nD τ)) ↦{fullShare} (sends m c : Buf (Elt F) (sendM.view.loc (c : Thread nD τ))))
  else if s = .dma gotS then iprop((landM.view.loc (c : Thread nD τ)) ↦{fullShare} (sends m (mate c) : Buf (Elt F) (landM.view.loc (c : Thread nD τ))))
  else iprop(emp)

/-- The units of a duty at a semaphore, for transfers of `n` units: one at the barrier, a transfer's elsewhere. -/
def units (n : ℕ) (s : SemLoc sig) : ℕ := if s = .reg barS then 1 else n
theorem units_bar (n : ℕ) : units n (.reg barS) = 1 := if_pos rfl
theorem units_sent (n : ℕ) : units n (.dma sentS) = n := if_neg sent_ne_bar
theorem units_got (n : ℕ) : units n (.dma gotS) = n := if_neg got_ne_bar
theorem units_pos (n : ℕ) (hn : 0 < n) (s : SemLoc sig) : 0 < units n s := by
  unfold units; split
  · exact Nat.one_pos
  · exact hn

/-- One duty in round 0 of each of the three cells of a TensorCore, and nothing else. A transfer counts `n` units. -/
def planOf (n : ℕ) (hn : 0 < n) : Rounds.Schedule (GSem nD τ sig) Unit 𝕄 where
  duties g r := if r = 0 ∧ g.1.2 = .tc ∧ (g.2 = .reg barS ∨ g.2 = .dma sentS ∨ g.2 = .dma gotS) then {()} else ∅
  unitless _ := False
  amount g _ _ := units n g.2
  payload g _ _ := hands m g.1.1 g.2
  amount_pos g _ _ _ := units_pos n hn g.2

section Amounts
variable (n : ℕ) (hn : 0 < n) (c : Dev nD) (u : Unit)
theorem planOf_gate : (planOf m n hn).amount (gate c) 0 u = 1 := units_bar n
theorem planOf_sent : (planOf m n hn).amount (sent c) 0 u = n := units_sent n
theorem planOf_got : (planOf m n hn).amount (got c) 0 u = n := units_got n

/-- A round with one duty expects that duty's amount. -/
theorem planOf_expect (g : GSem nD τ sig) (k : ℕ) (hd : (planOf m n hn).duties g 0 = {()})
    (hk : (planOf m n hn).amount g 0 () = k) : (planOf m n hn).expect g 0 = k := by
  unfold Schedule.expect Schedule.amountOf; rw [hd, Finset.sum_singleton, hk]
end Amounts

/-- The kernel's schedule: a transfer counts the credit of one block. -/
def plan : Rounds.Schedule (GSem nD τ sig) Unit 𝕄 := planOf m credit credit_pos

instance plan_storable (g : GSem nD τ sig) (r : ℕ) (d : Unit) : BI.Storable (upEmb : UEmb _ 𝕄) ((plan m).payload g r d) := by
  show BI.Storable upEmb (hands m g.1.1 g.2)
  unfold hands
  (repeat' split) <;> infer_instance

section Tables
variable (c : Dev nD)

theorem duties_gate : (plan m).duties (gate c) 0 = {()} := by
  dsimp only [plan, planOf]; rw [if_pos ⟨rfl, rfl, .inl rfl⟩]
theorem duties_sent : (plan m).duties (sent c) 0 = {()} := by
  dsimp only [plan, planOf]; rw [if_pos ⟨rfl, rfl, .inr (.inl rfl)⟩]
theorem duties_got : (plan m).duties (got c) 0 = {()} := by
  dsimp only [plan, planOf]; rw [if_pos ⟨rfl, rfl, .inr (.inr rfl)⟩]
/-- No cell has a duty after round 0. -/
theorem duties_done (g : GSem nD τ sig) (r : ℕ) (hr : 1 ≤ r) : (plan m).duties g r = ∅ := by
  dsimp only [plan, planOf]; rw [if_neg fun h => by omega]

theorem amount_gate (u : Unit) : (plan m).amount (gate c) 0 u = 1 := planOf_gate m credit credit_pos c u
theorem amount_sent (u : Unit) : (plan m).amount (sent c) 0 u = credit := planOf_sent m credit credit_pos c u
theorem amount_got (u : Unit) : (plan m).amount (got c) 0 u = credit := planOf_got m credit credit_pos c u

theorem expect_gate : (plan m).expect (gate c) 0 = 1 :=
  planOf_expect m credit credit_pos _ _ (duties_gate m c) (amount_gate m c ())
theorem expect_sent : (plan m).expect (sent c) 0 = credit :=
  planOf_expect m credit credit_pos _ _ (duties_sent m c) (amount_sent m c ())
theorem expect_got : (plan m).expect (got c) 0 = credit :=
  planOf_expect m credit credit_pos _ _ (duties_got m c) (amount_got m c ())

theorem payload_gate (u : Unit) : (plan m).payload (gate c) 0 u
    = lands (mate c) := by
  dsimp only [plan, planOf, hands]; rw [if_pos rfl]
theorem payload_sent (u : Unit) : (plan m).payload (sent c) 0 u
    = iprop((sendM.view.loc (c : Thread nD τ)) ↦{fullShare} (sends m c : Buf (Elt F) (sendM.view.loc (c : Thread nD τ)))) :=
  by dsimp only [plan, planOf, hands]; rw [if_neg sent_ne_bar, if_pos rfl]
theorem payload_got (u : Unit) : (plan m).payload (got c) 0 u
    = iprop((landM.view.loc (c : Thread nD τ)) ↦{fullShare} (sends m (mate c) : Buf (Elt F) (landM.view.loc (c : Thread nD τ)))) :=
  by dsimp only [plan, planOf, hands]; rw [if_neg got_ne_bar, if_neg got_ne_sent, if_pos rfl]

end Tables

/-! ## Dues and levels -/

/-- At launch a device owes its mate the block's credit on the got cell and one unit on the gate. -/
def dues (c : Dev nD) : CellTallies nD τ sig Unit := tallyAt (got (mate c)) () credit + tallyAt (gate (mate c)) () 1

/-- A TensorCore's cells carry the one label. -/
def labels (g : GSem nD τ sig) : Finset Unit := if g.1.2 = .tc then {()} else ∅
/-- Gates stand at level 1, got cells at level 2, all others at level 0. -/
def level (g : GSem nD τ sig) (_ : Unit) : ℕ := if g.2 = .reg barS then 1 else if g.2 = .dma gotS then 2 else 0

theorem labels_tc (c : Dev nD) (s : SemLoc sig) : () ∈ labels ((c : Thread nD τ), s) := by
  unfold labels; rw [if_pos rfl]; exact Finset.mem_singleton_self _
theorem level_gate (c : Dev nD) : level (gate c) () = 1 := if_pos rfl
theorem level_got (c : Dev nD) : level (got c) () = 2 := (if_neg got_ne_bar).trans (if_pos rfl)

/-- A device that owes the transfer alone may wait on its gate. -/
theorem wait_gate (c : Dev nD) : (levAts labels level : sProp 𝕄) ⊢ MayWait (c : Thread nD τ) (.reg barS) () (tallyAt (got (mate c)) () credit) :=
  Pipeline.mayWait_of_levAts (labels_tc c _) fun g u hg => by
    obtain ⟨rfl, rfl⟩ := Pipeline.tallyAt_pos hg
    exact ⟨labels_tc _ _, by rw [level_gate, level_got]; decide⟩

/-- A device that has every due still ahead may wait on a staging semaphore. -/
theorem wait_staging (c : Dev nD) (q : DmaSem sig) (hq : SemLoc.dma q ≠ .dma gotS) :
    (levAts labels level : sProp 𝕄) ⊢ MayWait (c : Thread nD τ) (.dma q) () (dues c) :=
  Pipeline.mayWait_of_levAts (labels_tc c _) fun g u hg => by
    have h0 : level ((c : Thread nD τ), .dma q) () = 0 := (if_neg (fun h => by cases h)).trans (if_neg hq)
    rcases Pipeline.add_pos_cases hg with h | h <;> obtain ⟨rfl, rfl⟩ := Pipeline.tallyAt_pos h
    · exact ⟨labels_tc _ _, by rw [h0, level_got]; decide⟩
    · exact ⟨labels_tc _ _, by rw [h0, level_gate]; decide⟩

/-! ## What the devices share and what each holds -/

/-- The semaphores of the three cells of a device. -/
abbrev port : Fin 3 → SemLoc sig := fun | 0 => .reg barS | 1 => .dma sentS | 2 => .dma gotS
/-- The cell at a port of a device. -/
abbrev cell (a : Dev nD × Fin 3) : GSem nD τ sig := ((a.1 : Thread nD τ), port a.2)

/-- The device that pays a cell's duty pays it from this place: a gate and a got cell are paid by the mate, a sent cell
    by the device itself. -/
def paidFrom : Dev nD × Fin 3 ≃ Dev nD × Fin 3 where
  toFun a := (if a.2 = 1 then a.1 else mate a.1, a.2)
  invFun a := (if a.2 = 1 then a.1 else mate a.1, a.2)
  left_inv a := by revert a; decide
  right_inv a := by revert a; decide

/-- What every device may read: each cell's invariant, and that its round 0 is open. -/
def board (K : Dev nD × Fin 3 → ℕ) : sProp 𝕄 :=
  bigSep Finset.univ fun a : Dev nD × Fin 3 => iprop(cellInv ER (plan m) (K a) (cell a) ∗ reached ER (cell a) 0)

instance board_persistent (K : Dev nD × Fin 3 → ℕ) : BI.Persistent (board m K) := by unfold board; infer_instance

/-- One cell's entry of the board. -/
theorem board_at (K : Dev nD × Fin 3 → ℕ) (a : Dev nD × Fin 3) :
    board m K ⊢ iprop(cellInv ER (plan m) (K a) (cell a) ∗ reached ER (cell a) 0) := bigSep_elim (Finset.mem_univ a)

theorem board_gate (K : Dev nD × Fin 3 → ℕ) (c : Dev nD) : board m K ⊢ iprop(cellInv ER (plan m) (K (c, 0)) (gate c) ∗ reached ER (gate c) 0) :=
  board_at m K (c, 0)
theorem board_sent (K : Dev nD × Fin 3 → ℕ) (c : Dev nD) : board m K ⊢ iprop(cellInv ER (plan m) (K (c, 1)) (sent c) ∗ reached ER (sent c) 0) :=
  board_at m K (c, 1)
theorem board_got (K : Dev nD × Fin 3 → ℕ) (c : Dev nD) : board m K ⊢ iprop(cellInv ER (plan m) (K (c, 2)) (got c) ∗ reached ER (got c) 0) :=
  board_at m K (c, 2)

/-- What device `c` alone holds of the protocol: its place at each of its cells and the tokens of the three duties it pays. -/
def holds (c : Dev nD) : sProp 𝕄 :=
  bigSep Finset.univ fun k : Fin 3 => iprop(atPos ER (cell (c, k)) 0 ∅ 0 ∗ dutyTok ER (cell (paidFrom (c, k))) 0 ())

/-- `holds`, cell by cell. -/
theorem holds_eq (c : Dev nD) : (holds c : sProp 𝕄)
    = iprop((atPos ER (gate c) 0 ∅ 0 ∗ dutyTok ER (gate (mate c)) 0 ()) ∗ (atPos ER (sent c) 0 ∅ 0 ∗ dutyTok ER (sent c) 0 ())
        ∗ (atPos ER (got c) 0 ∅ 0 ∗ dutyTok ER (got (mate c)) 0 ())) :=
  by
  have h0 : paidFrom (c, 0) = (mate c, 0) := rfl
  have h1 : paidFrom (c, 1) = (c, 1) := rfl
  have h2 : paidFrom (c, 2) = (mate c, 2) := rfl
  unfold holds
  rw [bigSep_univ_eq_bigSepL [0, 1, 2] (by decide) (by decide)]
  simp only [bigSepL, h0, h1, h2]
  rfl

/-- What a device enters the kernel with: the board, what it holds, the credit of its two waits that others pay, and the
    levels. -/
def entry (c : Dev nD) : sProp 𝕄 :=
  iprop((∃ K, board m K ∗ holds c) ∗ cred (tallyAt (gate c) () 1) ∗ cred (tallyAt (got c) () credit) ∗ levAts labels level)

end Cert.SoftmaxPair

end
-- ==== Proof.Body.lean ====
/-
  One device's run of the kernel body: from what it enters with to its share of the result.

  The body signals the mate's gate, waits on its own gate, stores its rounded logits into the send buffer, sends them
  into the mate's landing buffer, waits for both ends, and writes the two halves of its result.
-/
module

public import proofs.«01_k».proof.Proof.Protocol

@[expose] public section

set_option maxRecDepth 16384

noncomputable section

namespace Cert.SoftmaxPair

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The result of a device -/

/-- Two blocks side by side: `a` in columns 0 to 4095, `b` in columns 4096 to 8191. -/
def joined {α : Type} (a b : S256x4096.Idx → α) : S256x8192.Idx → α := fun j =>
  if h : (j 1).val < 4096 then a (fun | 0 => j 0 | 1 => ⟨(j 1).val, h⟩)
  else b (fun | 0 => j 0 | 1 => ⟨(j 1).val - 4096, by have : (j 1).val < 8192 := (j 1).isLt; show _ < 4096; omega⟩)

/-- The probabilities of the device's own columns. -/
def near (c : Dev nD) : Vec F S256x4096 .f32 :=
  k0_pay8 (k0_pay12 (xOf m c) (wOf m c)) (k0_pay13 (xOf m c) (wOf m c)) (k0_pay14 (xOf m c) (wOf m c)) (sends m (mate c))
/-- The probabilities of the mate's columns. -/
def far (c : Dev nD) : Vec F S256x4096 .f32 :=
  k0_pay9 (k0_pay12 (xOf m c) (wOf m c)) (k0_pay14 (xOf m c) (wOf m c)) (sends m (mate c))
/-- The result of a device: the columns of the device in mesh column 0 come first. -/
def result (c : Dev nD) : Vec F S256x8192 .f32 :=
  if c.val % 2 = 0 then joined (near m c) (far m c) else joined (far m c) (near m c)

/-! ## Reading and writing whole buffers -/

theorem zeros : (![0, 0] : Fin 2 → Nat) = fun _ => 0 := funext fun a => by fin_cases a <;> rfl

/-- Writing the left half and then the right half of the result's staging buffer leaves the two blocks side by side. -/
theorem write_halves (f : (cc0_stg2_0 : Ref sig .tc).ty.Contents (Elt F)) (a b : S256x4096.Idx → Elt F .f32) :
    ((Memref.whole cc0_stg2_0 : Memref sig .tc .vmem S256x8192 .f32).access (Rect.unit (s := S256x8192) ![0, 4096] S256x4096.size inb_S256x8192_S256x4096_0_4096) : View sig .tc _ _ _).write (Elt F)
      (((Memref.whole cc0_stg2_0 : Memref sig .tc .vmem S256x8192 .f32).access (Rect.unit (s := S256x8192) ![0, 0] S256x4096.size inb_S256x8192_S256x4096_0_0) : View sig .tc _ _ _).write (Elt F) f a Finset.univ)
      b Finset.univ = joined a b := by
  funext j
  unfold joined
  split
  · rename_i h
    rw [View.write_of_not_mem]
    · have := View.write_emb_of_mem (v := ((Memref.whole cc0_stg2_0 : Memref sig .tc .vmem S256x8192 .f32).access (Rect.unit (s := S256x8192) ![0, 0] S256x4096.size inb_S256x8192_S256x4096_0_0) : View sig .tc _ _ _))
        (Val := Elt F) f a (M := Finset.univ) (x := fun | 0 => j 0 | 1 => ⟨(j 1).val, h⟩) (Finset.mem_univ _)
      refine (congrArg _ ?_).trans this
      funext k
      apply Fin.ext
      fin_cases k
      · show (j 0).val = 0 + 1 * (j 0).val; omega
      · show (j 1).val = 0 + 1 * (j 1).val; omega
    · intro hm
      obtain ⟨x, _, hx⟩ := Finset.mem_map.mp hm
      have h1 : (j 1).val = 4096 + 1 * (x 1).val := by rw [← hx]; rfl
      omega
  · rename_i h
    have hlt : (j 1).val - 4096 < 4096 := by have : (j 1).val < 8192 := (j 1).isLt; omega
    have := View.write_emb_of_mem (v := ((Memref.whole cc0_stg2_0 : Memref sig .tc .vmem S256x8192 .f32).access (Rect.unit (s := S256x8192) ![0, 4096] S256x4096.size inb_S256x8192_S256x4096_0_4096) : View sig .tc _ _ _))
      (Val := Elt F) (((Memref.whole cc0_stg2_0 : Memref sig .tc .vmem S256x8192 .f32).access (Rect.unit (s := S256x8192) ![0, 0] S256x4096.size inb_S256x8192_S256x4096_0_0) : View sig .tc _ _ _).write (Elt F) f a Finset.univ)
      b (M := Finset.univ) (x := fun | 0 => j 0 | 1 => ⟨(j 1).val - 4096, hlt⟩) (Finset.mem_univ _)
    refine (congrArg _ ?_).trans this
    funext k
    apply Fin.ext
    fin_cases k
    · show (j 0).val = 0 + 1 * (j 0).val; omega
    · show (j 1).val = 4096 + 1 * ((j 1).val - 4096); omega

/-- The one block of window 0 is all of `x`. -/
theorem block_x (c : Dev nD) : (win0_0.blk (0 : Fin 1)).view.read (Elt F) (m ((c : Thread nD τ).loc main_arg0)) = xOf m c := by
  exact Memref.read_access_unit_zero (Elt F) main_arg0 (funext fun a => by fin_cases a <;> rfl) _ _
/-- The one block of window 1 is all of the device's block of `W`. -/
theorem block_w (c : Dev nD) : (win0_1.blk (0 : Fin 1)).view.read (Elt F) (m ((c : Thread nD τ).loc main_arg1)) = wOf m c := by
  exact Memref.read_access_unit_zero (Elt F) main_arg1 (funext fun a => by fin_cases a <;> rfl) _ _

/-- The send buffer and the landing buffer count the same units. -/
theorem credit_scratch0 : (Memref.whole cc0_scratch0 : Memref sig .tc .vmem S256x4096 .bf16).view.dmaCredit = credit := rfl

/-! ## Which half comes first -/

/-- A device's column of the mesh, as the kernel computes it. -/
abbrev column (c : Dev nD) : BitVec 32 := Scalar.remsi (Scalar.divsi (Dev.word c) 1#32) 2#32

theorem first_iff (c : Dev nD) : Scalar.cmpi .ne (Scalar.extui (Scalar.cmpi .eq (column c) 0#32)) 0#32 = 1#1 ↔ c.val % 2 = 0 := by
  revert c; decide
theorem second_iff (c : Dev nD) : Scalar.cmpi .ne (Scalar.extui (Scalar.cmpi .eq (column c) 1#32)) 0#32 = 1#1 ↔ ¬ c.val % 2 = 0 := by
  revert c; decide

/-! ## The body -/

attribute [local sl_rounds] duties_gate duties_sent duties_got amount_gate amount_sent amount_got expect_gate expect_sent
  expect_got payload_gate payload_sent payload_got mate_mate lands_eq

/-- The staging buffers of the two inputs and of the result. -/
abbrev xM : Memref sig .tc .vmem S256x512 .bf16 := Memref.whole cc0_stg0_0
abbrev wM : Memref sig .tc .vmem S512x4096 .bf16 := Memref.whole cc0_stg1_0
abbrev outM : Memref sig .tc .vmem S256x8192 .f32 := Memref.whole cc0_stg2_0

/-- No loop of the kernel needs a variant. -/
abbrev 𝒱₀ : Variants := Variants.none

/-- What a device enters the body with: its part of the protocol, what it owes, its two scratch buffers at any contents, the
    inputs staged, and the result's staging buffer at any contents. -/
def before (K : Dev nD × Fin 3 → ℕ) (c : Dev nD) (W : Waits sig Unit) (f0 : Buf (Elt F) (sendM.view.loc (c : Thread nD τ)))
    (f1 : Buf (Elt F) (landM.view.loc (c : Thread nD τ))) (f2 : Buf (Elt F) (outM.view.loc (c : Thread nD τ))) : sProp 𝕄 :=
  iprop((board m K ∗ holds c) ∗ cred (tallyAt (gate c) () 1) ∗ cred (tallyAt (got c) () credit) ∗ levAts labels level
    ∗ owes (c : Thread nD τ) (dues c) W
    ∗ ((sendM.view.loc (c : Thread nD τ)) ↦{fullShare} f0) ∗ ((landM.view.loc (c : Thread nD τ)) ↦{fullShare} f1)
    ∗ ((xM.view.loc (c : Thread nD τ)) ↦{fullShare} (xOf m c : Buf (Elt F) (xM.view.loc (c : Thread nD τ))))
    ∗ ((wM.view.loc (c : Thread nD τ)) ↦{fullShare} (wOf m c : Buf (Elt F) (wM.view.loc (c : Thread nD τ))))
    ∗ ((outM.view.loc (c : Thread nD τ)) ↦{fullShare} f2))

/-- What a device leaves the body with: nothing owed, its three semaphores at zero, its scratch buffers, the inputs as
    staged, and its result. -/
def afterwards (c : Dev nD) : sProp 𝕄 :=
  iprop((∃ W, owes (c : Thread nD τ) 0 W) ∗ (semVal (gate c) 0 ∗ semVal (sent c) 0 ∗ semVal (got c) 0)
    ∗ ((sendM.view.loc (c : Thread nD τ)) ↦{fullShare} (sends m c : Buf (Elt F) (sendM.view.loc (c : Thread nD τ))))
    ∗ ((landM.view.loc (c : Thread nD τ)) ↦{fullShare} (sends m (mate c) : Buf (Elt F) (landM.view.loc (c : Thread nD τ))))
    ∗ ((xM.view.loc (c : Thread nD τ)) ↦{fullShare} (xOf m c : Buf (Elt F) (xM.view.loc (c : Thread nD τ))))
    ∗ ((wM.view.loc (c : Thread nD τ)) ↦{fullShare} (wOf m c : Buf (Elt F) (wM.view.loc (c : Thread nD τ))))
    ∗ ((outM.view.loc (c : Thread nD τ)) ↦{fullShare} (result m c : Buf (Elt F) (outM.view.loc (c : Thread nD τ)))))

/-- A load of all of `x` reads it. -/
theorem load_x (v : Vec F S256x512 .bf16) :
    xM.view.readAt (Elt F) (Rect.unit (s := S256x512) ![0, 0] ![256, 512] inb_S256x512_S256x512_0_0).toLoadRect v = v :=
  Memref.readAt_unit_zero (Elt F) cc0_stg0_0 zeros _ v
/-- A load of all of the block of `W` reads it. -/
theorem load_w (v : Vec F S512x4096 .bf16) :
    wM.view.readAt (Elt F) (Rect.unit (s := S512x4096) ![0, 0] ![512, 4096] inb_S512x4096_S512x4096_0_0).toLoadRect v = v :=
  Memref.readAt_unit_zero (Elt F) cc0_stg1_0 zeros _ v
/-- A load of all of the landing buffer reads it. -/
theorem load_land (v : Vec F S256x4096 .bf16) :
    landM.view.readAt (Elt F) (Rect.unit (s := S256x4096) ![0, 0] ![256, 4096] inb_S256x4096_S256x4096_0_0).toLoadRect v = v :=
  Memref.readAt_unit_zero (Elt F) cc0_scratch1 zeros _ v
/-- A store over all of the send buffer leaves what was stored. -/
theorem store_send (f v : Vec F S256x4096 .bf16) :
    sendM.view.writes (Elt F) f [⟨Rect.unit (s := S256x4096) ![0, 0] ![256, 4096] inb_S256x4096_S256x4096_0_0, v⟩] = v :=
  Memref.write_access_unit_zero_univ (Elt F) cc0_scratch0 zeros inb_S256x4096_S256x4096_0_0 f v
/-- Stores of the left and the right half of the result leave the two blocks side by side. -/
theorem store_out (f : Vec F S256x8192 .f32) (a b : Vec F S256x4096 .f32) :
    outM.view.writes (Elt F) f [⟨Rect.unit (s := S256x8192) ![0, 4096] ![256, 4096] inb_S256x8192_S256x4096_0_4096, b⟩,
      ⟨Rect.unit (s := S256x8192) ![0, 0] ![256, 4096] inb_S256x8192_S256x4096_0_0, a⟩] = joined a b :=
  write_halves f a b

/-- The transfer addressed to a device is the transfer addressed to an equal one. -/
theorem transfer_to (d e : Dev nD) (h : d = e) {hsc} {hsrc} {hdst} {hsem} :
    (TpuEff.enqueueDma sendM (.remote (Dev.tc d) landM (.dma sentS) hsc) (.dma gotS) hsrc hdst hsem : TpuEff nD τ sig (Elt F) Λ₀ .tc PUnit)
      = TpuEff.enqueueDma sendM (.remote (Dev.tc e) landM (.dma sentS) rfl) (.dma gotS) hsrc (Memref.isWhole_whole _).wordExact ⟨⟨rfl, Or.inl rfl⟩, trivial⟩ := by
  subst h; rfl

attribute [local irreducible] sends

/-- What arrives in the mate's landing buffer is what the send buffer held. -/
theorem arrives (f v : Vec F S256x4096 .bf16) : landM.view.write (Elt F) f (sendM.view.read (Elt F) v) Finset.univ = v := by
  exact View.write_whole_univ cc0_scratch1 f v

/-- The transfer into the mate's landing buffer: the send buffer and the mate's landing buffer go into it, with the two
    duties it pays; the device is left with the credit of its own sent cell and nothing owed. -/
theorem wp_transfer (K : Dev nD × Fin 3 → ℕ) (c : Dev nD) {hsc} {hsrc} {hdst} {hsem} {α : Type} {Q : α → sProp 𝕄}
    {k : PUnit → Prog (TpuEff nD τ sig (Elt F) Λ₀ .tc) α} (f : Buf (Elt F) (landM.view.loc (mate c : Thread nD τ))) (W : Waits sig Unit) :
    iprop(cellInv ER (plan m) (K (c, 1)) (sent c) ∗ cellInv ER (plan m) (K (mate c, 2)) (got (mate c))
        ∗ ((sendM.view.loc (c : Thread nD τ)) ↦{fullShare} (sends m c : Buf (Elt F) (sendM.view.loc (c : Thread nD τ))))
        ∗ ((landM.view.loc (mate c : Thread nD τ)) ↦{fullShare} f)
        ∗ owes (c : Thread nD τ) (tallyAt (got (mate c)) () credit) W
        ∗ dutyTok ER (sent c) 0 () ∗ reached ER (sent c) 0 ∗ dutyTok ER (got (mate c)) 0 () ∗ reached ER (got (mate c)) 0)
      ⊢ iprop(((cred (tallyAt (sent c) () credit) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sendM (.remote (Dev.tc (mate c)) landM (.dma sentS) hsc) (.dma gotS) hsrc hdst hsem) k) Q) := by
  have hset0 : sendM.view.set = Finset.univ := View.set_whole _
  have hset1 : landM.view.set = Finset.univ := View.set_whole _
  have h := Rounds.wp_send_pointsTo (Q := Q) (k := k) (hsc := hsc) (hsrc := hsrc) (hdst := hdst) (hsem := hsem) 𝒱₀ ER (plan m) (c : Thread nD τ) none
    (defs := defs₀ (F := F)) (c' := (mate c : Thread nD τ)) (Γ := .empty) (src := sendM) (dst := landM) (sS := .dma sentS) (sem := .dma gotS) (q := fullShare)
    (κ₁ := K (c, 1)) (κ₂ := K (mate c, 2)) (fs := sends m c) (fd := f) (r₁ := 0) (r₂ := 0) (d₁ := ()) (d₂ := ())
    (by rw [duties_sent]; exact Finset.mem_singleton_self _) (by rw [duties_got]; exact Finset.mem_singleton_self _)
    () () credit (View.amount_dma _ _) (amount_sent m c ()) (amount_got m (mate c) ()) 0 (by rw [zero_add]) (W := W)
    (by rw [payload_sent, hset0]) (by rw [payload_got, hset1, arrives, mate_mate]) (Es := Set.univ)
  rw [hset0, hset1] at h
  exact h

/-- The end of the body: the three cells close, and their counters are the device's own again, at zero. -/
theorem finish (K : Dev nD × Fin 3 → ℕ) (c : Dev nD) (W : Waits sig Unit) {o : Vec F S256x8192 .f32} (ho : o = result m c) :
    iprop(cellInv ER (plan m) (K (c, 0)) (gate c) ∗ cellInv ER (plan m) (K (c, 1)) (sent c) ∗ cellInv ER (plan m) (K (c, 2)) (got c)
        ∗ atPos ER (gate c) 1 ∅ 0 ∗ atPos ER (sent c) 1 ∅ 0 ∗ atPos ER (got c) 1 ∅ 0 ∗ owes (c : Thread nD τ) 0 W
        ∗ ((sendM.view.loc (c : Thread nD τ)) ↦{fullShare} (sends m c : Buf (Elt F) (sendM.view.loc (c : Thread nD τ))))
        ∗ ((landM.view.loc (c : Thread nD τ)) ↦{fullShare} (sends m (mate c) : Buf (Elt F) (landM.view.loc (c : Thread nD τ))))
        ∗ ((xM.view.loc (c : Thread nD τ)) ↦{fullShare} (xOf m c : Buf (Elt F) (xM.view.loc (c : Thread nD τ))))
        ∗ ((wM.view.loc (c : Thread nD τ)) ↦{fullShare} (wOf m c : Buf (Elt F) (wM.view.loc (c : Thread nD τ))))
        ∗ ((outM.view.loc (c : Thread nD τ)) ↦{fullShare} (o : Buf (Elt F) (outM.view.loc (c : Thread nD τ)))))
      ⊢ wp frame (wpE (defs₀ (F := F)) 𝒱₀ c none) Set.univ (.ret ⟨⟩) (fun _ : PUnit => afterwards m c) := by
  subst ho
  rw [wp_ret]
  iintro ⟨#HIg, #HIs, #HIr, HaG, HaS, HaR, HO, Hrest⟩
  imod (Rounds.cell_close ER (plan m) (Set.mem_univ (K (c, 0))) (fun h => h) (R := 1) (duties_done m (gate c))) $$ [HaG] with Hg
  · isplitr; · iexact HIg
    iexact HaG
  imod (Rounds.cell_close ER (plan m) (Set.mem_univ (K (c, 1))) (fun h => h) (R := 1) (duties_done m (sent c))) $$ [HaS] with Hs
  · isplitr; · iexact HIs
    iexact HaS
  imod (Rounds.cell_close ER (plan m) (Set.mem_univ (K (c, 2))) (fun h => h) (R := 1) (duties_done m (got c))) $$ [HaR] with Hr
  · isplitr; · iexact HIr
    iexact HaR
  imodintro
  unfold afterwards
  isplitl [HO]; · iexists W; iexact HO
  isplitr [Hrest]
  · isplitl [Hg]; · iexact Hg
    isplitl [Hs] <;> iassumption
  iexact Hrest

set_option maxHeartbeats 1600000 in
/-- The body takes a device from the one to the other. -/
theorem body_run (K : Dev nD × Fin 3 → ℕ) (c : Dev nD) (W : Waits sig Unit) (f0 : Buf (Elt F) (sendM.view.loc (c : Thread nD τ)))
    (f1 : Buf (Elt F) (landM.view.loc (c : Thread nD τ))) (f2 : Buf (Elt F) (outM.view.loc (c : Thread nD τ))) :
    before m K c W f0 f1 f2 ⊢ wp frame (wpE (defs₀ (F := F)) 𝒱₀ c none) Set.univ
      (cc0_body xM (Memref.isWhole_whole _) wM (Memref.isWhole_whole _) outM (Memref.isWhole_whole _)
        sendM (Memref.isWhole_whole _) landM (Memref.isWhole_whole _) cc0_scratch2 cc0_scratch3) (fun _ => afterwards m c) := by
  have hmw := wait_gate (F := F) c
  simp only [cc0_body_eq_skeleton]
  unfold cc0_body_skel
  simp only [k0_part1_eq_skeleton]
  unfold k0_part1_skel
  simp only [semSignalWord, semWaitWord, Prog.lift, Prog.bind_op, Prog.bind_ret, Prog.pure_eq_ret, wp_deviceId]
  simp only [signalled_eq, addressed_eq]
  rw [transfer_to _ (mate c) (addressed_eq c)]
  by_cases hp : c.val % 2 = 0
  · simp only [dif_pos ((first_iff c).mpr hp), dif_neg (mt (second_iff c).mp (not_not_intro hp))]
    unfold before
    rw [holds_eq]
    unfold dues
    iintro ⟨⟨#HB, ⟨⟨HaG, HtG⟩, ⟨HaS, HtS⟩, ⟨HaR, HtR⟩⟩⟩, HcG, HcR, #Hlev, HO, Hsc0, Hsc1, Hx, Hw, Hout⟩
    ihave #⟨HIg, Hrg⟩ := (board_gate m K c) $$ HB
    ihave #⟨HIr, Hrr⟩ := (board_got m K c) $$ HB
    ihave #⟨HIgm, Hrgm⟩ := (board_gate m K (mate c)) $$ HB
    -- up to the transfer
    sl_exec
    rw [load_x, load_w, store_send, ← sends_eq]
    ihave #⟨HIs, Hrs⟩ := (board_sent m K c) $$ HB
    ihave #⟨HIrm, Hrrm⟩ := (board_got m K (mate c)) $$ HB
    iapply (wp_transfer m K c) $$ [Hsc0 HaG_pay1 HO HtS HtR]
    · isplitr; · iexact HIs
      isplitr; · iexact HIrm
      isplitl [Hsc0]; · iexact Hsc0
      isplitl [HaG_pay1]; · iexact HaG_pay1
      isplitl [HO]; · iexact HO
      isplitl [HtS]; · iexact HtS
      isplitr; · iexact Hrs
      isplitl [HtR]; · iexact HtR
      iexact Hrrm
    iintro ⟨HcS, HO⟩
    -- from the two waits to the end
    sl_exec
    rw [load_land, store_out]
    iapply (finish m K c _ ((if_pos hp).symm))
    isplitr; · iexact HIg
    isplitr; · iexact HIs
    isplitr; · iexact HIr
    isplitl [HaG]; · iexact HaG
    isplitl [HaS]; · iexact HaS
    isplitl [HaR]; · iexact HaR
    isplitl [HO]; · iexact HO
    isplitl [HaS_pay1]; · iexact HaS_pay1
    isplitl [HaR_pay1]; · iexact HaR_pay1
    isplitl [Hx]; · iexact Hx
    isplitl [Hw]; · iexact Hw
    iexact Hout
  · simp only [dif_neg (mt (first_iff c).mp hp), dif_pos ((second_iff c).mpr hp)]
    unfold before
    rw [holds_eq]
    unfold dues
    iintro ⟨⟨#HB, ⟨⟨HaG, HtG⟩, ⟨HaS, HtS⟩, ⟨HaR, HtR⟩⟩⟩, HcG, HcR, #Hlev, HO, Hsc0, Hsc1, Hx, Hw, Hout⟩
    ihave #⟨HIg, Hrg⟩ := (board_gate m K c) $$ HB
    ihave #⟨HIr, Hrr⟩ := (board_got m K c) $$ HB
    ihave #⟨HIgm, Hrgm⟩ := (board_gate m K (mate c)) $$ HB
    -- up to the transfer
    sl_exec
    rw [load_x, load_w, store_send, ← sends_eq]
    ihave #⟨HIs, Hrs⟩ := (board_sent m K c) $$ HB
    ihave #⟨HIrm, Hrrm⟩ := (board_got m K (mate c)) $$ HB
    iapply (wp_transfer m K c) $$ [Hsc0 HaG_pay1 HO HtS HtR]
    · isplitr; · iexact HIs
      isplitr; · iexact HIrm
      isplitl [Hsc0]; · iexact Hsc0
      isplitl [HaG_pay1]; · iexact HaG_pay1
      isplitl [HO]; · iexact HO
      isplitl [HtS]; · iexact HtS
      isplitr; · iexact Hrs
      isplitl [HtR]; · iexact HtR
      iexact Hrrm
    iintro ⟨HcS, HO⟩
    -- from the two waits to the end
    sl_exec
    rw [load_land, store_out]
    iapply (finish m K c _ ((if_neg hp).symm))
    isplitr; · iexact HIg
    isplitr; · iexact HIs
    isplitr; · iexact HIr
    isplitl [HaG]; · iexact HaG
    isplitl [HaS]; · iexact HaS
    isplitl [HaR]; · iexact HaR
    isplitl [HO]; · iexact HO
    isplitl [HaS_pay1]; · iexact HaS_pay1
    isplitl [HaR_pay1]; · iexact HaR_pay1
    isplitl [Hx]; · iexact Hx
    isplitl [Hw]; · iexact Hw
    iexact Hout

end Cert.SoftmaxPair
-- ==== Proof.Run.lean ====
/-
  The whole run: the launch of the four devices and what every execution ends with.

  The launch deals each device the ghost state of its own cells; one step over all devices turns it into the shared board
  and each device's holdings, the tokens of gates and got cells changing places between mates. `run_main` then says that
  every fair execution ends with the arguments unchanged, every semaphore at zero, and each device's result `result m c`.
-/
module

public import proofs.«01_k».proof.Proof.Body
public import Idealize.ShloMosaic.Lib.Pipeline.CollectiveSegs

@[expose] public section

set_option maxRecDepth 16384

noncomputable section

namespace Cert.SoftmaxPair

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
abbrev launched : MemSt nD τ sig (Elt F) := ⟨m, fun _ => 0, ρ⟩

/-! ## The pipeline's data -/

/-- What a device holds between the pipeline's steps, before the body: its entry and its two scratch buffers. -/
def early (c : Dev nD) : sProp 𝕄 :=
  iprop(entry m c ∗ (∃ f, (sendM.view.loc (c : Thread nD τ)) ↦{fullShare} f) ∗ (∃ f, (landM.view.loc (c : Thread nD τ)) ↦{fullShare} f))
/-- After the body: its three semaphores at zero and its two scratch buffers. -/
def late (c : Dev nD) : sProp 𝕄 :=
  iprop((semVal (gate c) 0 ∗ semVal (sent c) 0 ∗ semVal (got c) 0)
    ∗ (∃ f, (sendM.view.loc (c : Thread nD τ)) ↦{fullShare} f) ∗ (∃ f, (landM.view.loc (c : Thread nD τ)) ↦{fullShare} f))

/-- The pipeline's data on a device: the arrays as launched; the staging buffers as the body leaves them. -/
def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => wOf m c
    | ⟨2, _⟩ => result m c
  Φ t := match t with
    | ⟨0, _⟩ => early m c
    | ⟨_ + 1, _⟩ => late c
  q _ := fullShare
  owed t := match t with
    | ⟨0, _⟩ => dues c
    | ⟨_ + 1, _⟩ => 0

/-- A whole buffer held at contents `X` is its points-to at `X`. -/
theorem held_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- When the body starts, the staging buffer of `x` holds `x`. -/
theorem staged_x (c : Dev nD) (d) : (dats m 0 c).before (0 : Fin 3) t0_0 d = xOf m c := by
  unfold Dat.before; rw [if_pos (fetch0_0 t0_0)]; exact block_x m c
/-- When the body starts, the staging buffer of `W` holds the device's block of `W`. -/
theorem staged_w (c : Dev nD) (d) : (dats m 0 c).before (1 : Fin 3) t0_0 d = wOf m c := by
  unfold Dat.before; rw [if_pos (fetch0_1 t0_0)]; exact block_w m c

/-- A buffer of a device at contents that are known to be `X`. -/
abbrev at_ (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The body as the pipeline asks for it. -/
theorem body_obligation (c : Dev nD) : BodyObligation (dats (F := F) m 0 c) (defs₀ (F := F)) 𝒱₀ () Set.univ := fun t => by
  rw [fin_N0 t]
  rw [bigSep_W0, bigSep_W0]
  simp only [held_whole]
  show iprop(early m c ∗ (dats m 0 c).owesAt () (Fin.castSucc t0_0)
      ∗ (∃ d, at_ c cc0_stg0_0 ((dats m 0 c).before (0 : Fin 3) t0_0 d))
      ∗ (∃ d, at_ c cc0_stg1_0 ((dats m 0 c).before (1 : Fin 3) t0_0 d))
      ∗ (∃ d, at_ c cc0_stg2_0 ((dats m 0 c).before (2 : Fin 3) t0_0 d)))
    ⊢ wp frame (wpE (defs₀ (F := F)) 𝒱₀ c none) Set.univ
      (cc0_body xM (Memref.isWhole_whole _) wM (Memref.isWhole_whole _) outM (Memref.isWhole_whole _)
        sendM (Memref.isWhole_whole _) landM (Memref.isWhole_whole _) cc0_scratch2 cc0_scratch3)
      (fun _ => iprop(late c ∗ (dats m 0 c).owesAt () (Fin.succ t0_0)
        ∗ at_ c cc0_stg0_0 (xOf m c) ∗ at_ c cc0_stg1_0 (wOf m c) ∗ at_ c cc0_stg2_0 (result m c)))
  have hpost : (afterwards m c : sProp 𝕄) ⊢ iprop(late c ∗ (dats m 0 c).owesAt () (Fin.succ t0_0)
        ∗ at_ c cc0_stg0_0 (xOf m c) ∗ at_ c cc0_stg1_0 (wOf m c) ∗ at_ c cc0_stg2_0 (result m c)) := by
    unfold afterwards late Dat.owesAt Pipeline.owesWithin
    rw [show (dats m 0 c).owed (Fin.succ t0_0) = 0 from rfl]
    iintro ⟨⟨%W, HO⟩, Hz, H0, H1, Hx, Hw, Hout⟩
    isplitl [Hz H0 H1]
    · isplitl [Hz]; · iexact Hz
      isplitl [H0]
      · iexists _; iexact H0
      · iexists _; iexact H1
    isplitl [HO]
    · iexists W
      isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    · iexists _; isplitr; · (ipureintro; rfl)
      iexact Hout
  refine BI.Entails.trans (show iprop(early m c ∗ (dats m 0 c).owesAt () (Fin.castSucc t0_0)
      ∗ (∃ d, at_ c cc0_stg0_0 ((dats m 0 c).before (0 : Fin 3) t0_0 d))
      ∗ (∃ d, at_ c cc0_stg1_0 ((dats m 0 c).before (1 : Fin 3) t0_0 d))
      ∗ (∃ d, at_ c cc0_stg2_0 ((dats m 0 c).before (2 : Fin 3) t0_0 d)))
    ⊢ wp frame (wpE (defs₀ (F := F)) 𝒱₀ c none) Set.univ
      (cc0_body xM (Memref.isWhole_whole _) wM (Memref.isWhole_whole _) outM (Memref.isWhole_whole _)
        sendM (Memref.isWhole_whole _) landM (Memref.isWhole_whole _) cc0_scratch2 cc0_scratch3) (fun _ => afterwards m c) from ?_)
    (Idealize.SL.Sem.wp_mono _ _ _ fun _ => hpost)
  unfold early entry Dat.owesAt Pipeline.owesWithin
  rw [show (dats m 0 c).owed (Fin.castSucc t0_0) = dues c from rfl]
  iintro ⟨⟨⟨⟨%K, HK⟩, HcG, HcR, Hlev⟩, ⟨%f0, H0⟩, ⟨%f1, H1⟩⟩, ⟨%W, -, HO⟩, ⟨%d0, %fx, %hx, Hx⟩, ⟨%d1, %fw, %hw, Hw⟩, ⟨%d2, %fo, -, Hout⟩⟩
  rw [staged_x] at hx
  rw [staged_w] at hw
  subst hx hw
  iapply (body_run m K c W f0 f1 fo)
  unfold before
  isplitl [HK]; · iexact HK
  isplitl [HcG]; · iexact HcG
  isplitl [HcR]; · iexact HcR
  isplitl [Hlev]; · iexact Hlev
  isplitl [HO]; · iexact HO
  isplitl [H0]; · iexact H0
  isplitl [H1]; · iexact H1
  isplitl [Hx]; · iexact Hx
  isplitl [Hw]; · iexact Hw
  iexact Hout

/-! ## Dealing the ghost state -/

/-- Different places are different cells. -/
theorem cell_injective : Function.Injective (cell : Dev nD × Fin 3 → GSem nD τ sig) := by
  rintro ⟨c, k⟩ ⟨d, l⟩ h
  have hc : c = d := congrArg (fun g : GSem nD τ sig => g.1.1) h
  have hp : port k = port l := congrArg Prod.snd h
  have hk : k = l := by fin_cases k <;> fin_cases l <;> first | rfl | exact absurd hp (by decide)
  rw [hc, hk]

/-- All the cells of the protocol. -/
def cells : Finset (GSem nD τ sig) := Finset.univ.map ⟨cell, cell_injective⟩
/-- The one duty of each cell. -/
def chores : Finset (GSem nD τ sig × ℕ × Unit) :=
  Finset.univ.map ⟨fun a : Dev nD × Fin 3 => (cell a, 0, ()), fun _ _ h => cell_injective (congrArg Prod.fst h)⟩

/-- The ghost state at launch. -/
def seed : UU := (initOf (Pipeline.cells cfgs cellOf_inj) (Pipeline.launchToks cfgs cellOf_inj), initOf cells chores)

/-- The ghost state of one cell at launch. -/
def dealt (a : Dev nD × Fin 3) : sProp 𝕄 :=
  iprop(roundState ER (plan m) (cell a) 0 ∗ reached ER (cell a) 0 ∗ atPos ER (cell a) 0 ∅ 0 ∗ dutyTok ER (cell a) 0 ())

/-- The ghost state at launch is that of every cell of every device. -/
theorem deal : BI.own (ER (initOf cells chores)) ⊢ (|==> bigSep Finset.univ fun c : Dev nD => bigSep Finset.univ fun k : Fin 3 => dealt m (c, k) : sProp 𝕄) := by
  have h := Rounds.fund (ER (F := F)) (plan m) cells chores
  unfold cells chores at h ⊢
  rw [bigSep_map, bigSep_map, bigSep_map, bigSep_map, ← bigSep_sep', ← bigSep_sep', ← bigSep_sep'] at h
  rw [← bigSep_univ_prod (fun a : Dev nD × Fin 3 => dealt m a)]
  exact h

/-- The kernel's own semaphores: the sent one and the got one. -/
abbrev ownSem : Fin 2 → SemLoc sig := fun | 0 => .dma sentS | 1 => .dma gotS

/-- They are the scoped semaphores that the kernel may use. -/
theorem ownSem_facts : Pipeline.OwnSemFacts cfg0.spec ownSem := by decide

theorem own_eq (c : Dev nD) : (Pipeline.ownSems0 (Ix := Unit) (Name := ℕ) (U := UU) (Lvl := ℕ) (Val := Elt F) (τ := τ) ownSem c : sProp 𝕄)
    = iprop(semVal (sent c) 0 ∗ semVal (got c) 0) := by
  rw [Pipeline.ownSems0_eq_of_list c ownSem [0, 1] (by decide) (by decide)]; rfl
/-- The barrier semaphore is the only one that outlives the kernel. -/
theorem unscoped_eq (c : Dev nD) : (unscopedSems0 c : sProp 𝕄) = semVal (gate c) 0 := by
  unfold unscopedSems0; rw [bigSep_eq_bigSepL_of_eq [SemLoc.reg barS] (by decide) (by decide)]; rfl

/-- One cell opens: its invariant is allocated. -/
theorem open_cell (a : Dev nD × Fin 3) : iprop(semVal (cell a) 0 ∗ dealt m a)
    ⊢ |={Set.univ}=> iprop((∃ κ : ℕ, cellInv ER (plan m) κ (cell a)) ∗ reached ER (cell a) 0 ∗ atPos ER (cell a) 0 ∅ 0 ∗ dutyTok ER (cell a) 0 ()) := by
  unfold dealt
  iintro ⟨Hv, Hst, Hrest⟩
  imod ((Rounds.body_intro ER (plan m) (cell a)).trans inv_alloc) $$ [Hv Hst] with Hinv
  · isplitl [Hv] <;> iassumption
  imodintro
  isplitl [Hinv] <;> iassumption

/-- What a device's body takes from the ghost state. -/
def share (c : Dev nD) : sProp 𝕄 := iprop(∃ K, board m K ∗ holds c)

/-- All cells open at once, and the tokens go to the devices that pay with them. -/
theorem distribute :
    (bigSep Finset.univ fun a : Dev nD × Fin 3 =>
        iprop((∃ κ : ℕ, cellInv ER (plan m) κ (cell a)) ∗ reached ER (cell a) 0 ∗ atPos ER (cell a) 0 ∅ 0 ∗ dutyTok ER (cell a) 0 ()) : sProp 𝕄)
      ⊢ bigSep Finset.univ (share m) := by
  rw [bigSep_sep', bigSep_sep', bigSep_sep', bigSep_univ_equiv paidFrom (fun a : Dev nD × Fin 3 => (dutyTok ER (cell a) 0 () : sProp 𝕄))]
  iintro ⟨HI, HR, Hat, Htok⟩
  ihave HK := (BI.bigSep_exists_pi Finset.univ (fun (a : Dev nD × Fin 3) (κ : ℕ) => (cellInv ER (plan m) κ (cell a) : sProp 𝕄))) $$ HI
  icases HK with ⟨%K, HI⟩
  have hb : iprop((bigSep Finset.univ fun a : Dev nD × Fin 3 => (cellInv ER (plan m) (K a) (cell a) : sProp 𝕄))
      ∗ bigSep Finset.univ fun a : Dev nD × Fin 3 => (reached ER (cell a) 0 : sProp 𝕄)) ⊢ bigSep Finset.univ fun _ : Dev nD => board m K := by
    rw [← bigSep_sep']
    exact BI.bigSep_of_persistent Finset.univ (board m K)
  have hh : iprop((bigSep Finset.univ fun a : Dev nD × Fin 3 => (atPos ER (cell a) 0 ∅ 0 : sProp 𝕄))
      ∗ bigSep Finset.univ fun a : Dev nD × Fin 3 => (dutyTok ER (cell (paidFrom a)) 0 () : sProp 𝕄)) ⊢ bigSep Finset.univ fun c : Dev nD => holds c := by
    rw [← bigSep_sep', bigSep_univ_prod]
    exact Entails.rfl
  ihave HB := hb $$ [HI HR]
  · isplitl [HI] <;> iassumption
  ihave HH := hh $$ [Hat Htok]
  · isplitl [Hat] <;> iassumption
  have hs : iprop((bigSep Finset.univ fun _ : Dev nD => board m K) ∗ bigSep Finset.univ fun c : Dev nD => (holds c : sProp 𝕄)) ⊢ bigSep Finset.univ (share m) := by
    rw [← bigSep_sep']
    refine bigSep_mono fun c _ => show iprop(board m K ∗ holds c) ⊢ share m c from ?_
    unfold share
    iintro H
    iexists K
    iexact H
  iapply hs
  isplitl [HB] <;> iassumption

/-- A conjunction over the three places, written out. -/
theorem three (Φ : Fin 3 → sProp 𝕄) : bigSep Finset.univ Φ = iprop(Φ 0 ∗ Φ 1 ∗ Φ 2) := bigSep_univ_eq_bigSepL [0, 1, 2] (by decide) (by decide) Φ

/-- The launch's one step over all devices. -/
theorem everyone : (bigSep Finset.univ fun c => iprop(Pipeline.ownSems0 (Ix := Unit) (Name := ℕ) (U := UU) (Lvl := ℕ) (Val := Elt F) (τ := τ) ownSem c
      ∗ unscopedSems0 c ∗ bigSep Finset.univ fun k : Fin 3 => dealt m (c, k)) : sProp 𝕄)
    ⊢ |={Set.univ}=> bigSep Finset.univ (share m) := by
  have h1 (c : Dev nD) : iprop(Pipeline.ownSems0 (Ix := Unit) (Name := ℕ) (U := UU) (Lvl := ℕ) (Val := Elt F) (τ := τ) ownSem c
      ∗ unscopedSems0 c ∗ bigSep Finset.univ fun k : Fin 3 => dealt m (c, k))
      ⊢ (bigSep Finset.univ fun k : Fin 3 => iprop(semVal (cell (c, k)) 0 ∗ dealt m (c, k)) : sProp 𝕄) := by
    rw [own_eq, unscoped_eq, bigSep_sep', three (fun k => semVal (cell (c, k)) 0)]
    iintro ⟨⟨Hs, Hr⟩, Hg, Hd⟩
    isplitr [Hd]
    · isplitl [Hg]; · iexact Hg
      isplitl [Hs] <;> iassumption
    iexact Hd
  refine (bigSep_mono fun c _ => h1 c).trans ?_
  rw [← bigSep_univ_prod (fun a : Dev nD × Fin 3 => iprop(semVal (cell a) 0 ∗ dealt m a))]
  exact ((bigSep_mono fun a _ => open_cell m a).trans (bigSep_fupd _ _)).trans (BI.fupd_mono (distribute m))

/-! ## The side conditions of the launch -/

/-- The credit a device is launched with: what its mate owes it. -/
theorem credits (c : Dev nD) :
    (Pipeline.launchCred dues c : sProp 𝕄) ⊢ iprop(cred (tallyAt (gate c) () 1) ∗ cred (tallyAt (got c) () credit)) := by
  have h := Pipeline.launchCred_add (Val := Elt F) (Name := ℕ) (U := UU) (Lvl := ℕ) (fun c => tallyAt (got (mate c)) () credit) (fun c => tallyAt (gate (mate c)) () 1) c
  refine (Entails.of_eq h).trans ?_
  iintro ⟨H1, H2⟩
  isplitl [H2]
  · iapply (Pipeline.launchCred_tallyAt (SemLoc.reg barS) mate mate mate_mate mate_mate () 1 c); iexact H2
  · iapply (Pipeline.launchCred_tallyAt (SemLoc.dma gotS) mate mate mate_mate mate_mate () credit c); iexact H1

theorem enter (c : Dev nD) :
    iprop(Pipeline.unscopedRestP Pipeline.Prefetch.none cfg0.spec c (fun b => m ((c : Thread nD τ).loc b)) ∗ levAts labels level
        ∗ Pipeline.launchCred dues c ∗ prngReg c (ρ c) ∗ share m c)
      ⊢ |={Set.univ}=> iprop(entry m c ∗ emp) := by
  iintro ⟨-, Hlev, Hcr, -, HG⟩
  ihave ⟨H1, HN⟩ := (credits (F := F) c) $$ Hcr
  imodintro
  unfold entry share
  isplitl
  · isplitl [HG]; · iexact HG
    isplitl [H1]; · iexact H1
    isplitl [HN]; · iexact HN
    iexact Hlev
  · iempintro

theorem begin_ (c : Dev nD) :
    iprop(entry m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = early m c from rfl, scopedRest0_eq]
  unfold early
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = late c from rfl, scopedRest0_eq, own_eq, unscoped_eq]
  unfold late
  iintro ⟨⟨Hg, Hs, Hr⟩, Hm⟩
  isplitl [Hg]; · iexact Hg
  isplitl [Hs Hr]
  · isplitl [Hs] <;> iassumption
  iexact Hm

/-- The pipeline's own waits are below every due. -/
theorem staging_waits (c : Dev nD) : (levAts labels level : sProp 𝕄) ⊢ Pipeline.cellsWaits cfgs (dats m) () 0 c :=
  Pipeline.cellsWaits_intro cfgs (dats m) () 0 c fun w s t => by
    rcases t with ⟨_ | _, ht⟩
    · exact wait_staging c _ (by fin_cases w <;> fin_cases s <;> decide)
    · show _ ⊢ MayWait _ _ _ 0
      rw [MayWait_zero]; iintro -; iempintro

theorem share_whole (c : Dev nD) (w : Fin cfg0.W) : (dats m 0 c).share w = fullShare := by unfold Dat.share; split <;> rfl

/-! ## The run -/

/-- Every execution ends with each window's array as the pipeline's data say and every semaphore at zero. -/
theorem run_arrays : θ_run defs (onTc (τ := τ) (main (F := F))) (launched m ρ)
    (fun r => (∀ c : Dev nD, ∀ w : Fin cfg0.W, r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm) (dats m) () cellOf_inj (0 : Fin 1)
    winFacts0.to₀ ownSem_facts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_whole m)
    (hdistinct := winFacts0.arr_inj)
    (O₀ := dues) (howed₀ := fun _ => rfl) (howedN := fun _ => rfl)
    (L := labels) (lv := level) (hL := fun g h => if_neg h) (hwaits := staging_waits m)
    (G := fun c => bigSep Finset.univ fun k : Fin 3 => dealt m (c, k)) (G' := share m) (u₀ := seed)
    (hu₀ := by
      unfold seed
      iintro Hu
      ihave ⟨HP, HX⟩ := (ownU_pair _ _) $$ Hu
      imod (deal m) $$ HX with HG
      imodintro
      isplitl [HP] <;> iassumption)
    (hglob := everyone m)
    (hA := fun _ _ => rfl) (hpf := fun _ k => k.elim0)
    (X := entry m) (Y := fun c => unscopedSems0 c) (Z := fun _ => iprop(emp))
    (hX := enter m ρ) (hin := begin_ m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array after the run is the device's result. -/
theorem out_array (c : Dev nD) : (dats m 0 c).arrAt (2 : Fin 3) cfg0.N = (result m c : Buf (Elt F) ((c : Thread nD τ).loc main_v1)) := by
  have whole (v : Buf (Elt F) ((c : Thread nD τ).loc main_v1)) : (win0_2.blk (0 : Fin 1)).view.read (Elt F) v = v :=
    by exact Memref.read_access_unit_zero (Elt F) main_v1 (funext fun a => by fin_cases a <;> rfl) _ _
  refine (whole _).symm.trans ?_
  show (win0_2.blk t0_0).view.read (Elt F) ((dats m 0 c).arrAt (2 : Fin 3) (t0_0.val + 1)) = result m c
  rw [(dats m 0 c).arrAt_succ (2 : Fin 3) t0_0, if_pos (flush0_2 t0_0)]
  exact View.read_write_univ _ _

/-- Every fair execution of the kernel, from any memory with zero semaphores, ends with the arguments unchanged, every
    semaphore at zero, and each device's result `result m c`. -/
theorem run_main : θ_run defs (onTc (τ := τ) (main (F := F))) (launched m ρ)
    (fun r => (∀ c : Dev nD, r.2.mem ((c : Thread nD τ).loc main_v1) = result m c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ h => ⟨fun c => ⟨(h.1 c (2 : Fin 3)).trans (out_array m c),
    (h.1 c (0 : Fin 3)).trans ((dats (F := F) m 0 c).arrAt_in (0 : Fin 3) rfl _),
    (h.1 c (1 : Fin 3)).trans ((dats (F := F) m 0 c).arrAt_in (1 : Fin 3) rfl _)⟩, h.2⟩) (run_arrays m ρ)

/-- `run_main` without the result. -/
theorem run_frame : θ_run defs (onTc (τ := τ) (main (F := F))) (launched m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ h => ⟨fun c => (h.1 c).2, h.2⟩) (run_main m ρ)

end Cert.SoftmaxPair

end
-- ==== Proof.Softmax.lean ====
/-
  The mathematics of a row of probabilities taken in two halves, over the extended reals: a row whose two halves are
  normalized by their own maxima and then corrected to the common one is the row normalized once.
-/
module

public import Idealize.ShloMosaic.PureOps.Ideal
public import Idealize.ShloMosaic.Lib.IdealHost

@[expose] public section

noncomputable section

namespace Cert.SoftmaxPair

open Idealize.ShloMosaic

variable {n : ℕ}

/-- The largest entry of a row, from minus infinity. -/
def top (v : Fin n → EReal) : EReal := (Finset.univ : Finset (Fin n)).fold max ⊥ v

/-- The entries of a row less a number, exponentiated and added up. -/
def mass (v : Fin n → EReal) (M : EReal) : EReal := ∑ k, Ideal.exp (v k - M)

/-- The row normalized: its entries less the largest one, exponentiated, over the sum of those. -/
def normed (v : Fin n → EReal) : Fin n → EReal := fun k => Ideal.div (Ideal.exp (v k - top v)) (mass v (top v))

/-- The row normalized, written out. -/
theorem normed_eq (v : Fin n → EReal) :
    normed v = fun k => Ideal.div (Ideal.exp (v k - top fun i => v i)) (∑ i, Ideal.exp (v i - top fun i => v i)) := rfl

/-- The largest entry of a row is the row's supremum. -/
theorem top_eq_sup (v : Fin n → EReal) : top v = Finset.univ.sup v := rfl

/-- The largest entry of a row of real numbers is a real number. -/
theorem top_real (hn : 0 < n) (a : Fin n → ℝ) : ∃ A : ℝ, top (fun k => (a k : EReal)) = A := by
  have hne : (Finset.univ : Finset (Fin n)).Nonempty := ⟨⟨0, hn⟩, Finset.mem_univ _⟩
  obtain ⟨k, -, hk⟩ := Finset.exists_mem_eq_sup _ hne (fun k => (a k : EReal))
  exact ⟨a k, (top_eq_sup _).trans hk⟩

/-- The largest entry of a row is the larger of the largest entries of its halves. -/
theorem top_halves {N : ℕ} (h : n + n = N) (v : Fin N → EReal) :
    top v = max (top fun k : Fin n => v ⟨k.val, by omega⟩) (top fun k : Fin n => v ⟨n + k.val, by omega⟩) := by
  rw [top_eq_sup, top_eq_sup, top_eq_sup]
  apply le_antisymm
  · refine Finset.sup_le fun k _ => ?_
    by_cases hk : k.val < n
    · exact le_max_of_le_left (Finset.le_sup (f := fun k : Fin n => v ⟨k.val, by omega⟩) (Finset.mem_univ ⟨k.val, hk⟩))
    · have e : v k = (fun k : Fin n => v ⟨n + k.val, by omega⟩) ⟨k.val - n, by omega⟩ :=
        congrArg v (Fin.ext (by show k.val = n + (k.val - n); omega))
      rw [e]
      exact le_max_of_le_right (Finset.le_sup (f := fun k : Fin n => v ⟨n + k.val, by omega⟩) (Finset.mem_univ _))
  · exact max_le (Finset.sup_le fun k _ => Finset.le_sup (f := v) (Finset.mem_univ _))
      (Finset.sup_le fun k _ => Finset.le_sup (f := v) (Finset.mem_univ _))

/-- The sum over a row is the sum over its halves. -/
theorem mass_halves {N : ℕ} (h : n + n = N) (v : Fin N → EReal) (M : EReal) :
    mass v M = mass (fun k : Fin n => v ⟨k.val, by omega⟩) M + mass (fun k : Fin n => v ⟨n + k.val, by omega⟩) M := by
  subst h
  exact Fin.sum_univ_add _

/-- The real sum of real numbers, as a sum of extended reals. -/
theorem real_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exponential of a difference of real numbers. -/
theorem exp_sub_coe (x y : ℝ) : Ideal.exp ((x : EReal) - (y : EReal)) = ((Real.exp (x - y) : ℝ) : EReal) := by
  rw [← EReal.coe_sub]; rfl

/-- The sum of a row of real numbers is the real one. -/
theorem mass_coe (a : Fin n → ℝ) (M : ℝ) :
    mass (fun k => (a k : EReal)) (M : EReal) = ((∑ k, Real.exp (a k - M) : ℝ) : EReal) := by
  unfold mass
  rw [real_sum]
  exact Finset.sum_congr rfl fun k _ => exp_sub_coe _ _

/-- A quotient of real numbers whose divisor is positive. -/
theorem div_coe (x y : ℝ) (hy : 0 < y) : Ideal.div (x : EReal) (y : EReal) = ((x / y : ℝ) : EReal) := by
  unfold Ideal.div
  rw [if_neg (by exact_mod_cast hy.ne'), ← EReal.coe_inv, ← EReal.coe_mul, div_eq_mul_inv]

/-- A half's entry normalized by the half's own maximum and corrected to the common one is the entry normalized by the
    common maximum and the common sum. -/
theorem corrected (hn : 0 < n) (a b : Fin n → ℝ) (j : Fin n) :
    Ideal.exp ((a j : EReal) - top (fun k => (a k : EReal)))
        * Ideal.div (Ideal.exp (top (fun k => (a k : EReal)) - max (top fun k => (a k : EReal)) (top fun k => (b k : EReal))))
          (mass (fun k => (a k : EReal)) (top fun k => (a k : EReal))
              * Ideal.exp (top (fun k => (a k : EReal)) - max (top fun k => (a k : EReal)) (top fun k => (b k : EReal)))
            + mass (fun k => (b k : EReal)) (top fun k => (b k : EReal))
              * Ideal.exp (top (fun k => (b k : EReal)) - max (top fun k => (a k : EReal)) (top fun k => (b k : EReal))))
      = Ideal.div (Ideal.exp ((a j : EReal) - max (top fun k => (a k : EReal)) (top fun k => (b k : EReal))))
          (mass (fun k => (a k : EReal)) (max (top fun k => (a k : EReal)) (top fun k => (b k : EReal)))
            + mass (fun k => (b k : EReal)) (max (top fun k => (a k : EReal)) (top fun k => (b k : EReal)))) := by
  obtain ⟨A, hA⟩ := top_real hn a
  obtain ⟨B, hB⟩ := top_real hn b
  rw [hA, hB]
  have hM : max (A : EReal) (B : EReal) = ((max A B : ℝ) : EReal) := (EReal.coe_strictMono.monotone.map_max).symm
  rw [hM]
  have hne : (Finset.univ : Finset (Fin n)).Nonempty := ⟨⟨0, hn⟩, Finset.mem_univ _⟩
  have key : ∀ (c : Fin n → ℝ) (C : ℝ), (∑ k, Real.exp (c k - C)) * Real.exp (C - max A B) = ∑ k, Real.exp (c k - max A B) := by
    intro c C
    rw [Finset.sum_mul]
    refine Finset.sum_congr rfl fun k _ => ?_
    rw [← Real.exp_add]; congr 1; ring
  have pos : 0 < (∑ k, Real.exp (a k - max A B)) + ∑ k, Real.exp (b k - max A B) :=
    add_pos (Finset.sum_pos (fun _ _ => Real.exp_pos _) hne) (Finset.sum_pos (fun _ _ => Real.exp_pos _) hne)
  simp only [exp_sub_coe, mass_coe, ← EReal.coe_mul, ← EReal.coe_add, key]
  rw [div_coe _ _ pos, div_coe _ _ pos, ← EReal.coe_mul]
  congr 1
  rw [← mul_div_assoc, ← Real.exp_add]
  congr 2; ring

/-- The row normalized by the maximum and the sum over both halves, at an entry of the first half. -/
def portion (a b : Fin n → EReal) (k : Fin n) : EReal :=
  Ideal.div (Ideal.exp (a k - max (top a) (top b))) (mass a (max (top a) (top b)) + mass b (max (top a) (top b)))

/-- At an entry of the first half of a row, the row normalized is its first half's portion. -/
theorem portion_low {N : ℕ} (h : n + n = N) (v : Fin N → EReal) (k : Fin n) :
    portion (fun k : Fin n => v ⟨k.val, by omega⟩) (fun k : Fin n => v ⟨n + k.val, by omega⟩) k = normed v ⟨k.val, by omega⟩ := by
  unfold portion normed
  rw [top_halves h v, mass_halves h v]

/-- At an entry of the second half, it is the second half's portion. -/
theorem portion_high {N : ℕ} (h : n + n = N) (v : Fin N → EReal) (k : Fin n) :
    portion (fun k : Fin n => v ⟨n + k.val, by omega⟩) (fun k : Fin n => v ⟨k.val, by omega⟩) k = normed v ⟨n + k.val, by omega⟩ := by
  unfold portion normed
  rw [top_halves h v, mass_halves h v, max_comm, add_comm]

/-- A sum of products of real numbers is a real number. -/
theorem dot_real {ι : Type} (s : Finset ι) (f g : ι → EReal) (hf : ∀ i, f i ≠ ⊤ ∧ f i ≠ ⊥) (hg : ∀ i, g i ≠ ⊤ ∧ g i ≠ ⊥) :
    ∃ x : ℝ, ∑ i ∈ s, f i * g i = (x : EReal) := by
  refine ⟨∑ i ∈ s, (f i).toReal * (g i).toReal, ?_⟩
  rw [real_sum]
  refine Finset.sum_congr rfl fun i _ => ?_
  rw [EReal.coe_mul, EReal.coe_toReal (hf i).1 (hf i).2, EReal.coe_toReal (hg i).1 (hg i).2]

end Cert.SoftmaxPair

end
-- ==== Proof.Value.lean ====
/-
  The result of a device read at an index, at exact arithmetic.
-/
module

public import proofs.«01_k».proof.Proof.Body
public import proofs.«01_k».proof.Proof.Softmax
public import Idealize.ShloMosaic.Lib.Pointwise

@[expose] public section

noncomputable section

namespace Cert.SoftmaxPair

open Idealize.ShloMosaic Cert.KernelIdeal Cert.KernelIdeal.Gen

/-- Row `r` of a block. -/
def row (v : FVec Ideal S256x4096 .f32) (r : Fin 256) : Fin 4096 → EReal := fun k => v (ix2 r k)

/-- The pattern of minus infinity is minus infinity. -/
theorem least : Ideal.ofBits .f32 0xFF800000#32 = ⊥ := by simp [Ideal.ofBits, Ideal.ieee]

variable (x : Vec Ideal S256x512 .bf16) (w : Vec Ideal S512x4096 .bf16)

/-- A device's block of logits at an index. -/
theorem logits_apply (r : Fin 256) (k : Fin 4096) :
    k0_pay10 (F := Ideal) x w (ix2 r k) = ∑ i : Fin 512, x (ix2 r i) * w (ix2 i k) := by
  unfold k0_pay10
  pointwise [dot_S256x512_S512x4096_S256x4096_1_0_0_1_n_n]

/-- The block sent is the block of logits. -/
theorem sent_apply : k0_pay11 (F := Ideal) x w = k0_pay10 x w := by
  unfold k0_pay11
  funext j
  pointwise

/-- The maximum of a row of the device's own logits. -/
theorem own_top (r : Fin 256) (z : Fin 1) : k0_pay12 (F := Ideal) x w (ix2 r z) = top (row (k0_pay10 x w) r) := by
  unfold k0_pay12 top row
  pointwise [least]

/-- The device's own logits less their row's maximum, exponentiated. -/
theorem own_exp (r : Fin 256) (k : Fin 4096) :
    k0_pay13 (F := Ideal) x w (ix2 r k) = Ideal.exp (row (k0_pay10 x w) r k - top (row (k0_pay10 x w) r)) := by
  unfold k0_pay13
  pointwise [own_top]
  rfl

/-- The sum of those over a row. -/
theorem own_mass (r : Fin 256) (z : Fin 1) :
    k0_pay14 (F := Ideal) x w (ix2 r z) = mass (row (k0_pay10 x w) r) (top (row (k0_pay10 x w) r)) := by
  unfold k0_pay14 mass
  pointwise [own_exp]

variable (y : Vec Ideal S256x4096 .bf16)

/-- A received block read as f32 is itself. -/
theorem taken : k0_pay1 (F := Ideal) y = (y : S256x4096.Idx → EReal) := by
  unfold k0_pay1
  funext j
  pointwise

/-- The maximum of a row of the received logits. -/
theorem other_top (r : Fin 256) (z : Fin 1) : k0_pay2 (F := Ideal) y (ix2 r z) = top (row y r) := by
  unfold k0_pay2 top row
  pointwise [least, taken]

/-- The received logits less their row's maximum, exponentiated. -/
theorem other_exp (r : Fin 256) (k : Fin 4096) : k0_pay3 (F := Ideal) y (ix2 r k) = Ideal.exp (row y r k - top (row y r)) := by
  unfold k0_pay3
  pointwise [other_top, taken]
  rfl

/-- A difference exponentiated, at an index. -/
theorem exp_subf_apply (a b : FVec Ideal S256x1 .f32) (i : S256x1.Idx) :
    exp (subf a b) i = Ideal.exp ((a i : EReal) - b i) := rfl

/-- The larger of two columns, at an index. -/
theorem larger_apply (a b : FVec Ideal S256x1 .f32) (i : S256x1.Idx) : maximumf a b i = max (a i : EReal) (b i) := rfl

/-- The maximum of a row over both halves. -/
theorem joint_top (r : Fin 256) (z : Fin 1) :
    k0_pay4 (F := Ideal) (k0_pay12 x w) y (ix2 r z) = max (top (row (k0_pay10 x w) r)) (top (row y r)) := by
  unfold k0_pay4
  rw [larger_apply, own_top, other_top]

/-- The correction of the device's own half of a row. -/
theorem own_fix (r : Fin 256) (z : Fin 1) :
    k0_pay5 (F := Ideal) (k0_pay12 x w) y (ix2 r z)
      = Ideal.exp (top (row (k0_pay10 x w) r) - max (top (row (k0_pay10 x w) r)) (top (row y r))) := by
  unfold k0_pay5
  rw [exp_subf_apply, joint_top, own_top]

/-- The correction of the received half of a row. -/
theorem other_fix (r : Fin 256) (z : Fin 1) :
    k0_pay6 (F := Ideal) (k0_pay12 x w) y (ix2 r z)
      = Ideal.exp (top (row y r) - max (top (row (k0_pay10 x w) r)) (top (row y r))) := by
  unfold k0_pay6
  rw [exp_subf_apply, joint_top, other_top]

/-- The corrected sum over the two halves of a row. -/
theorem both_mass (r : Fin 256) (z : Fin 1) :
    k0_pay7 (F := Ideal) (k0_pay12 x w) (k0_pay14 x w) y (ix2 r z)
      = mass (row (k0_pay10 x w) r) (top (row (k0_pay10 x w) r))
            * Ideal.exp (top (row (k0_pay10 x w) r) - max (top (row (k0_pay10 x w) r)) (top (row y r)))
          + mass (row y r) (top (row y r)) * Ideal.exp (top (row y r) - max (top (row (k0_pay10 x w) r)) (top (row y r))) := by
  unfold k0_pay7
  pointwise [own_mass, own_fix, other_fix, other_exp, mass]

/-- The block that a device computes for its own columns, when the logits are real numbers. -/
theorem own_portion (r : Fin 256) (a b : Fin 4096 → ℝ) (ha : row (k0_pay10 x w) r = fun k => (a k : EReal))
    (hb : row y r = fun k => (b k : EReal)) (k : Fin 4096) :
    k0_pay8 (F := Ideal) (k0_pay12 x w) (k0_pay13 x w) (k0_pay14 x w) y (ix2 r k) = portion (row (k0_pay10 x w) r) (row y r) k := by
  unfold k0_pay8 portion
  pointwise [own_exp, own_fix, both_mass]
  rw [ha, hb]
  exact corrected (by omega) a b k

/-- The block that it computes for its mate's columns. -/
theorem other_portion (r : Fin 256) (a b : Fin 4096 → ℝ) (ha : row (k0_pay10 x w) r = fun k => (a k : EReal))
    (hb : row y r = fun k => (b k : EReal)) (k : Fin 4096) :
    k0_pay9 (F := Ideal) (k0_pay12 x w) (k0_pay14 x w) y (ix2 r k) = portion (row y r) (row (k0_pay10 x w) r) k := by
  unfold k0_pay9 portion
  pointwise [other_exp, other_fix, both_mass]
  rw [ha, hb, max_comm, add_comm]
  exact corrected (by omega) b a k

end Cert.SoftmaxPair

end
-- ==== Proof.RefValue.lean ====
/-
  The reference's result read at an index, at exact arithmetic: every row of the whole product normalized by its maximum
  and its sum.
-/
module

public import proofs.«01_k».proof.Proof.Gen.ReferenceIdeal.Run
public import proofs.«01_k».proof.Proof.Softmax
public import Idealize.ShloMosaic.Lib.Pointwise

@[expose] public section

noncomputable section

namespace Cert.SoftmaxPair.Ref

open Idealize.ShloMosaic Cert.ReferenceIdeal Cert.ReferenceIdeal.Gen

/-- Row `r` of the whole product. -/
def logits (x : Vec Ideal S256x512 .bf16) (w : Vec Ideal S512x8192 .bf16) (r : Fin 256) : Fin 8192 → EReal :=
  fun k => ∑ i : Fin 512, (x (ix2 r i) : EReal) * w (ix2 i k)

/-- The probabilities: every row of the product normalized. -/
def probs (x : Vec Ideal S256x512 .bf16) (w : Vec Ideal S512x8192 .bf16) : Vec Ideal S256x8192 .f32 := fun j =>
  normed (logits x w (j 0)) (j 1)

/-- The probabilities at an index. -/
theorem probs_apply (x : Vec Ideal S256x512 .bf16) (w : Vec Ideal S512x8192 .bf16) (r : Fin 256) (k : Fin 8192) :
    probs x w (ix2 r k) = normed (logits x w r) k := rfl

variable (x : Vec Ideal S256x512 .bf16) (w : Vec Ideal S512x8192 .bf16)

/-- The reference's product at an index. -/
theorem dot_apply (r : Fin 256) (k : Fin 8192) :
    Host.dotGeneral (F := Ideal) (φ₁ := .bf16) (φ₂ := .bf16) dot_S256x512_S512x8192_S256x8192_1_0_0_1_n_n none x w (ix2 r k) = logits x w r k := by
  unfold logits
  pointwise [dot_S256x512_S512x8192_S256x8192_1_0_0_1_n_n]

/-- A row's maximum laid along the row. -/
theorem tops_apply (d : FVec Ideal S256x8192 .f32) (r : Fin 256) (k : Fin 8192) :
    broadcastInDim S256x8192 ![0, 1] bcast_S256x1_S256x8192_0_1 (broadcastInDim S256x1 ![0] bcast_S256_S256x1_0
      (Host.reduce FloatOps.maximumf d (constant S_ .f32 0xFF800000#32) reducesTo_S256x8192_S256_d1 h_S_)) (ix2 r k)
      = top fun k => (d (ix2 r k) : EReal) := by
  unfold top
  have least : Ideal.ofBits .f32 0xFF800000#32 = ⊥ := by simp [Ideal.ofBits, Ideal.ieee]
  pointwise [least]

/-- A row's sum laid along the row. -/
theorem sums_apply (e : FVec Ideal S256x8192 .f32) (r : Fin 256) (k : Fin 8192) :
    broadcastInDim S256x8192 ![0, 1] bcast_S256x1_S256x8192_0_1 (broadcastInDim S256x1 ![0] bcast_S256_S256x1_0
      (Host.reduceAdd e (constant S_ .f32 0x00000000#32) reducesTo_S256x8192_S256_d1 h_S_)) (ix2 r k)
      = ∑ k, (e (ix2 r k) : EReal) := by
  pointwise

/-- An exponentiated difference at an index. -/
theorem exp_subf_apply (a b : FVec Ideal S256x8192 .f32) (j : S256x8192.Idx) :
    Host.exp (subf a b) j = Ideal.exp ((a j : EReal) - b j) := rfl

/-- A quotient at an index. -/
theorem divf_apply (a b : FVec Ideal S256x8192 .f32) (j : S256x8192.Idx) :
    Host.divf a b j = Ideal.div (a j : EReal) (b j) := rfl

/-- The reference's result is the probabilities. -/
theorem result_eq :
    Host.divf (F := Ideal) (Host.exp (subf (Host.dotGeneral (φ₁ := .bf16) (φ₂ := .bf16) dot_S256x512_S512x8192_S256x8192_1_0_0_1_n_n none x w) (broadcastInDim S256x8192 ![0, 1] bcast_S256x1_S256x8192_0_1 (broadcastInDim S256x1 ![0] bcast_S256_S256x1_0 (Host.reduce FloatOps.maximumf (Host.dotGeneral (φ₁ := .bf16) (φ₂ := .bf16) dot_S256x512_S512x8192_S256x8192_1_0_0_1_n_n none x w) (constant S_ .f32 0xFF800000#32) reducesTo_S256x8192_S256_d1 h_S_))))) (broadcastInDim S256x8192 ![0, 1] bcast_S256x1_S256x8192_0_1 (broadcastInDim S256x1 ![0] bcast_S256_S256x1_0 (Host.reduceAdd (Host.exp (subf (Host.dotGeneral (φ₁ := .bf16) (φ₂ := .bf16) dot_S256x512_S512x8192_S256x8192_1_0_0_1_n_n none x w) (broadcastInDim S256x8192 ![0, 1] bcast_S256x1_S256x8192_0_1 (broadcastInDim S256x1 ![0] bcast_S256_S256x1_0 (Host.reduce FloatOps.maximumf (Host.dotGeneral (φ₁ := .bf16) (φ₂ := .bf16) dot_S256x512_S512x8192_S256x8192_1_0_0_1_n_n none x w) (constant S_ .f32 0xFF800000#32) reducesTo_S256x8192_S256_d1 h_S_))))) (constant S_ .f32 0x00000000#32) reducesTo_S256x8192_S256_d1 h_S_)))
      = probs x w := by
  funext j
  obtain ⟨r, k, rfl⟩ : ∃ (r : Fin 256) (k : Fin 8192), j = ix2 r k := ⟨j 0, j 1, by funext a; match a with | ⟨0, _⟩ => rfl | ⟨1, _⟩ => rfl⟩
  have hd := dot_apply x w r
  generalize Host.dotGeneral (F := Ideal) (φ₁ := .bf16) (φ₂ := .bf16) dot_S256x512_S512x8192_S256x8192_1_0_0_1_n_n none x w = d at hd ⊢
  have ht := tops_apply d r
  generalize broadcastInDim S256x8192 ![0, 1] bcast_S256x1_S256x8192_0_1 (broadcastInDim S256x1 ![0] bcast_S256_S256x1_0
      (Host.reduce FloatOps.maximumf d (constant S_ .f32 0xFF800000#32) reducesTo_S256x8192_S256_d1 h_S_)) = t at ht ⊢
  rw [divf_apply, sums_apply, probs_apply, normed_eq]
  simp only [exp_subf_apply, ht, hd]

end Cert.SoftmaxPair.Ref

end
-- ==== Proof.Agree.lean ====
/-
  The result of every device is the reference's, at exact arithmetic and finite arguments.
-/
module

public import proofs.«01_k».proof.Defs
public import proofs.«01_k».proof.Proof.Value
public import proofs.«01_k».proof.Proof.RefValue
public import Idealize.ShloMosaic.Lib.ReduceAll

@[expose] public section

noncomputable section

namespace Cert.SoftmaxPair

open Idealize.ShloMosaic Cert.KernelIdeal Cert.KernelIdeal.Gen

/-- Neither infinity. -/
def Finite {s : Shape} (v : s.Idx → EReal) : Prop := ∀ i, v i ≠ ⊤ ∧ v i ≠ ⊥

variable (X : Vec Ideal S256x512 .bf16) (W : Vec Ideal ⟨2, ![512, 8192]⟩ .bf16)

/-- The block of `W` that a device holds. -/
def part (c : Dev nD) : Vec Ideal S512x4096 .bf16 :=
  Layout.blockN ⟨2, ![512, 4096]⟩ ⟨2, ![512, 8192]⟩ (Layout.meshBlock [2, 2] ![[], [1]] c) W

/-- It is the half of the columns that the device's column of the mesh names. -/
theorem part_apply (c : Dev nD) (i : Fin 512) (k : Fin 4096) :
    part W c (ix2 i k) = W (ix2 i ⟨c.val % 2 * 4096 + k.val, by omega⟩) := by
  unfold part
  refine congrArg W ?_
  funext a
  match a with
  | ⟨0, _⟩ => exact Fin.ext (by show 0 * 512 + i.val = i.val; omega)
  | ⟨1, _⟩ => exact Fin.ext (by
      show (c.val / 1 % 2 * 1 + 0) * 4096 + k.val = c.val % 2 * 4096 + k.val
      omega)

/-- The device's logits are that half of the whole rows. -/
theorem half (c : Dev nD) (r : Fin 256) :
    row (k0_pay10 X (part W c)) r = fun k => Ref.logits X W r ⟨c.val % 2 * 4096 + k.val, by omega⟩ := by
  funext k
  unfold row Ref.logits
  rw [logits_apply]
  exact Finset.sum_congr rfl fun i _ => by rw [part_apply]

/-- At finite arguments the logits are real numbers. -/
theorem half_real (x : Vec Ideal S256x512 .bf16) (w : Vec Ideal S512x4096 .bf16) (hx : Finite x) (hw : Finite w) (r : Fin 256) :
    ∃ a : Fin 4096 → ℝ, row (k0_pay10 x w) r = fun k => (a k : EReal) := by
  have h : ∀ k : Fin 4096, ∃ z : ℝ, row (k0_pay10 x w) r k = (z : EReal) := by
    intro k
    unfold row
    rw [logits_apply]
    exact dot_real Finset.univ _ _ (fun i => hx _) (fun i => hw _)
  choose a ha using h
  exact ⟨a, funext ha⟩

/-- The first half of a whole row of logits. -/
theorem half_low (c : Dev nD) (hc : c.val % 2 = 0) (r : Fin 256) :
    row (k0_pay10 X (part W c)) r = fun k : Fin 4096 => Ref.logits X W r ⟨k.val, by omega⟩ := by
  rw [half]
  funext k
  exact congrArg _ (Fin.ext (by show c.val % 2 * 4096 + k.val = k.val; omega))

/-- The second half of a whole row of logits. -/
theorem half_high (c : Dev nD) (hc : c.val % 2 = 1) (r : Fin 256) :
    row (k0_pay10 X (part W c)) r = fun k : Fin 4096 => Ref.logits X W r ⟨4096 + k.val, by omega⟩ := by
  rw [half]
  funext k
  exact congrArg _ (Fin.ext (by show c.val % 2 * 4096 + k.val = 4096 + k.val; omega))

/-- Two blocks side by side that agree with an array on its two halves are the array. -/
theorem joined_eq {α : Type} (a b : S256x4096.Idx → α) (f : S256x8192.Idx → α)
    (ha : ∀ (r : Fin 256) (k : Fin 4096), a (ix2 r k) = f (ix2 r ⟨k.val, by omega⟩))
    (hb : ∀ (r : Fin 256) (k : Fin 4096), b (ix2 r k) = f (ix2 r ⟨4096 + k.val, by omega⟩)) : joined a b = f := by
  funext j
  have hj : (j 1).val < 8192 := (j 1).isLt
  unfold joined
  split
  next h =>
    refine Eq.trans (congrArg a (funext fun d => ?_)) ((ha (j 0) ⟨(j 1).val, h⟩).trans (congrArg f (funext fun d => ?_)))
    · match d with
      | ⟨0, _⟩ => rfl
      | ⟨1, _⟩ => rfl
    · match d with
      | ⟨0, _⟩ => rfl
      | ⟨1, _⟩ => rfl
  next h =>
    refine Eq.trans (congrArg b (funext fun d => ?_)) ((hb (j 0) ⟨(j 1).val - 4096, by omega⟩).trans (congrArg f (funext fun d => ?_)))
    · match d with
      | ⟨0, _⟩ => rfl
      | ⟨1, _⟩ => rfl
    · match d with
      | ⟨0, _⟩ => rfl
      | ⟨1, _⟩ => exact Fin.ext (by show 4096 + ((j 1).val - 4096) = (j 1).val; omega)

variable (m : (ℓ : Loc nD τ sig) → Buf (Elt Ideal) ℓ)

/-- What a device sends is its block of logits. -/
theorem sends_row (c : Dev nD) (r : Fin 256) : row (sends m c) r = row (k0_pay10 (xOf m c) (wOf m c)) r := by
  rw [sends_eq, sent_apply]

/-- The mate stands in the other column of the mesh. -/
theorem mate_column (c : Dev nD) : (mate c).val % 2 = 1 - c.val % 2 := by revert c; decide

/-- The result of every device is the reference's. -/
theorem result_probs (hX : ∀ c, xOf m c = X) (hW : ∀ c, wOf m c = part W c) (fX : Finite X) (fW : ∀ c, Finite (part W c))
    (c : Dev nD) : result m c = Ref.probs X W := by
  have hnear : ∀ (r : Fin 256) (k : Fin 4096), near m c (ix2 r k)
      = portion (row (k0_pay10 X (part W c)) r) (row (k0_pay10 X (part W (mate c))) r) k := by
    intro r k
    obtain ⟨a, ha⟩ := half_real X (part W c) fX (fW c) r
    obtain ⟨b, hb⟩ := half_real X (part W (mate c)) fX (fW (mate c)) r
    have hs := sends_row m (mate c) r
    rw [hX, hW] at hs
    unfold near
    rw [hX, hW, own_portion X (part W c) _ r a b ha (hs.trans hb) k, hs]
  have hfar : ∀ (r : Fin 256) (k : Fin 4096), far m c (ix2 r k)
      = portion (row (k0_pay10 X (part W (mate c))) r) (row (k0_pay10 X (part W c)) r) k := by
    intro r k
    obtain ⟨a, ha⟩ := half_real X (part W c) fX (fW c) r
    obtain ⟨b, hb⟩ := half_real X (part W (mate c)) fX (fW (mate c)) r
    have hs := sends_row m (mate c) r
    rw [hX, hW] at hs
    unfold far
    rw [hX, hW, other_portion X (part W c) _ r a b ha (hs.trans hb) k, hs]
  have hm := mate_column c
  unfold result
  split
  next hc =>
    refine joined_eq _ _ _ (fun r k => ?_) fun r k => ?_
    · rw [hnear, half_low X W c hc, half_high X W (mate c) (by omega), Ref.probs_apply]
      exact portion_low rfl (Ref.logits X W r) k
    · rw [hfar, half_low X W c hc, half_high X W (mate c) (by omega), Ref.probs_apply]
      exact portion_high rfl (Ref.logits X W r) k
  next hc =>
    refine joined_eq _ _ _ (fun r k => ?_) fun r k => ?_
    · rw [hfar, half_high X W c (by omega), half_low X W (mate c) (by omega), Ref.probs_apply]
      exact portion_low rfl (Ref.logits X W r) k
    · rw [hnear, half_high X W c (by omega), half_low X W (mate c) (by omega), Ref.probs_apply]
      exact portion_high rfl (Ref.logits X W r) k

/-- A bf16 number between the infinities, as the finiteness test compares it. -/
theorem between (z : EReal)
    (h : IntOp.andi (FloatOps.cmpf (F := Ideal) (φ := .bf16) .olt z (FloatOps.ofBits .bf16 0x7F80#16))
      (FloatOps.cmpf (F := Ideal) (φ := .bf16) .ogt z (FloatOps.ofBits .bf16 0xFF80#16)) = 1#1) : z ≠ ⊤ ∧ z ≠ ⊥ := by
  have ht : Ideal.ofBits .bf16 0x7F80#16 = ⊤ := by simp [Ideal.ofBits, Ideal.ieee]
  have hb : Ideal.ofBits .bf16 0xFF80#16 = ⊥ := by simp [Ideal.ofBits, Ideal.ieee]
  have h' : IntOp.andi (Ideal.cmp .olt z (Ideal.ofBits .bf16 0x7F80#16)) (Ideal.cmp .ogt z (Ideal.ofBits .bf16 0xFF80#16)) = 1#1 := h
  rw [ht, hb] at h'
  unfold Ideal.cmp at h'
  refine ⟨?_, ?_⟩ <;> rintro rfl <;> revert h' <;> simp [IntOp.andi]

/-- Two bits whose conjunction is set are set. -/
theorem both_set : ∀ a b : BitVec 1, IntOp.andi a b = 1#1 → a = 1#1 ∧ b = 1#1 := by decide

/-- Arguments that pass the finiteness test are finite. -/
theorem finite_of_test [Cert.Pre_finite_KernelIdeal.Facts] (x : Vec Ideal S256x512 .bf16) (w : Vec Ideal S512x4096 .bf16)
    (h : Cert.Pre_finite_KernelIdeal.fn (F := Ideal) x w = fun _ => 1#1) : Finite x ∧ Finite w := by
  have h0 := congrFun h (fun d => d.elim0)
  unfold Cert.Pre_finite_KernelIdeal.fn at h0
  obtain ⟨hx, hw⟩ := both_set _ _ h0
  haveI : Subsingleton (Cert.Pre_finite_KernelIdeal.S_).Idx := ⟨fun a b => funext fun d => d.elim0⟩
  exact ⟨fun i => between _ (Host.reduce_andi_all _ _ _ _ _ hx i), fun i => between _ (Host.reduce_andi_all _ _ _ _ _ hw i)⟩

end Cert.SoftmaxPair

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The shape facts of the finiteness test over a device's blocks. -/
instance facts_finite_kernel : Cert.Pre_finite_KernelIdeal.Facts where
  bcast_S_S256x512 := by decide
  reducesTo_S256x512_S_d0_1 := by decide
  h_S_ := by decide
  bcast_S_S512x4096 := by decide
  reducesTo_S512x4096_S_d0_1 := by decide

/-- The shape facts of the finiteness test over the whole arrays. -/
instance facts_finite_reference : Cert.Pre_finite_ReferenceIdeal.Facts where
  bcast_S_S256x512 := by decide
  reducesTo_S256x512_S_d0_1 := by decide
  h_S_ := by decide
  bcast_S_S512x8192 := by decide
  reducesTo_S512x8192_S_d0_1 := by decide

/-- The kernel and the kernel read at exact arithmetic have the same body table. -/
theorem same_bodies : Cert.Kernel.defs₀ (F := Bits) = Cert.KernelIdeal.defs₀ (F := Bits) := by
  unfold Cert.Kernel.defs₀ Cert.KernelIdeal.defs₀
  refine congrArg (Defs.onTc (τ := Cert.Kernel.τ)) ?_
  funext l a
  match l, a with
  | ⟨0, _⟩, (t, s) => rfl

/-- So their tables with the pipeline's labels are the same. -/
theorem same_table : Cert.Kernel.defs (F := Bits) = Cert.KernelIdeal.defs (F := Bits) :=
  congrArg (Pipeline.defs (Cert.Kernel.pcfgs (F := Bits))) same_bodies

/-- The kernel as printed runs, leaves its arguments alone and ends with every semaphore at zero. -/
theorem frame_kernel : Cert.quiescent_Kernel := fun m ρ _ => by
  rw [same_table]
  exact Cert.SoftmaxPair.run_frame (F := Bits) m ρ

/-- So does the kernel read at exact arithmetic. -/
theorem frame_ideal : Cert.quiescent_KernelIdeal := fun m ρ _ =>
  Cert.SoftmaxPair.run_frame (F := Ideal) m ρ

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At finite arguments every device of the kernel ends with the reference's result. -/
theorem values : Cert.algebraic_KernelIdeal_ReferenceIdeal_pre_finite_KernelIdeal := by
  intro m g m' g' hpre harg
  have hfin := fun c : Dev Cert.KernelIdeal.nD => Cert.SoftmaxPair.finite_of_test _ _ (hpre c)
  refine ⟨Cert.SoftmaxPair.Ref.probs
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).1.trans ?_, (h.1 c).2⟩) (Cert.SoftmaxPair.run_main (F := Ideal) m g)
    refine Cert.SoftmaxPair.result_probs _ _ m (fun c => (harg c).1) (fun c => (harg c).2) ?_ (fun c => ?_) c
    · rw [← (harg 0).1]; exact (hfin 0).1
    · have h2 := (hfin c).2
      rw [(harg c).2] at h2
      exact h2
  · exact (θ_run Cert.ReferenceIdeal.defs _ _).mono (fun r h => ⟨(h 0).1.trans (Cert.SoftmaxPair.Ref.result_eq _ _), (h 0).2⟩)
      (Cert.ReferenceIdeal.Value.run (F := Ideal) m' g')

/-- Every claim of the certificate. -/
theorem claim : Cert.Claim :=
  ⟨Cert.Kernel.Gen.facts, Cert.KernelIdeal.Gen.facts, Cert.ReferenceIdeal.Gen.facts, facts_finite_kernel, facts_finite_reference,
    frame_kernel, frame_ideal, fun m ρ _ => frame_ideal m ρ trivial, frame_reference, fun m ρ _ => frame_reference m ρ trivial, trivial,
    values⟩

end Cert.Proof

end
